-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22_1)) (v1 : (c : Dev Cert.KernelIdeal.nD) → Buf (Elt Ideal) ((c.tc : Thread Cert.KernelIdeal.nD Cert.KernelIdeal.τ).loc Cert.KernelIdeal.main_v22_2)) (v2 : (c : Dev Cert.KernelIdeal.nD) → Buf (Elt Ideal) ((c.tc : Thread Cert.KernelIdeal.nD Cert.KernelIdeal.τ).loc Cert.KernelIdeal.main_v22_3)) (v3 : (c : Dev Cert.KernelIdeal.nD) → Buf (Elt Ideal) ((c.tc : Thread Cert.KernelIdeal.nD Cert.KernelIdeal.τ).loc Cert.KernelIdeal.main_v22_4)) (v4 : (c : Dev Cert.KernelIdeal.nD) → Buf (Elt Ideal) ((c.tc : Thread Cert.KernelIdeal.nD Cert.KernelIdeal.τ).loc Cert.KernelIdeal.main_v22_5)) (v5 : (c : Dev Cert.KernelIdeal.nD) → Buf (Elt Ideal) ((c.tc : Thread Cert.KernelIdeal.nD Cert.KernelIdeal.τ).loc Cert.KernelIdeal.main_v22_6)) (v6 : (c : Dev Cert.KernelIdeal.nD) → Buf (Elt Ideal) ((c.tc : Thread Cert.KernelIdeal.nD Cert.KernelIdeal.τ).loc Cert.KernelIdeal.main_v22_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_1) = v0 c
          ∧ r.2.mem ((c.tc : Thread Cert.KernelIdeal.nD Cert.KernelIdeal.τ).loc Cert.KernelIdeal.main_v22_2) = v1 c
          ∧ r.2.mem ((c.tc : Thread Cert.KernelIdeal.nD Cert.KernelIdeal.τ).loc Cert.KernelIdeal.main_v22_3) = v2 c
          ∧ r.2.mem ((c.tc : Thread Cert.KernelIdeal.nD Cert.KernelIdeal.τ).loc Cert.KernelIdeal.main_v22_4) = v3 c
          ∧ r.2.mem ((c.tc : Thread Cert.KernelIdeal.nD Cert.KernelIdeal.τ).loc Cert.KernelIdeal.main_v22_5) = v4 c
          ∧ r.2.mem ((c.tc : Thread Cert.KernelIdeal.nD Cert.KernelIdeal.τ).loc Cert.KernelIdeal.main_v22_6) = v5 c
          ∧ r.2.mem ((c.tc : Thread Cert.KernelIdeal.nD Cert.KernelIdeal.τ).loc Cert.KernelIdeal.main_v22_7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v13) = v5 c
          ∧ r.2.mem ((c.tc : Thread Cert.ReferenceIdeal.nD Cert.ReferenceIdeal.τ).loc Cert.ReferenceIdeal.main_v16) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x8x4096x128 : Shape := ⟨4, ![2, 8, 4096, 128]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S1x256x2048 : Shape := ⟨3, ![1, 256, 2048]⟩
abbrev S_ : Shape := ⟨0, ![]⟩
abbrev S2x4096x4096 : Shape := ⟨3, ![2, 4096, 4096]⟩
abbrev S2x4096x8x128 : Shape := ⟨4, ![2, 4096, 8, 128]⟩
abbrev S2x4096x1024 : Shape := ⟨3, ![2, 4096, 1024]⟩
abbrev S2x4096x2048 : Shape := ⟨3, ![2, 4096, 2048]⟩
abbrev S2x4096x9216 : Shape := ⟨3, ![2, 4096, 9216]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩
abbrev S256x2048 : Shape := ⟨2, ![256, 2048]⟩
abbrev S512x1024 : Shape := ⟨2, ![512, 1024]⟩
abbrev S8x2048x1024 : Shape := ⟨3, ![8, 2048, 1024]⟩
abbrev S1x256x1024 : Shape := ⟨3, ![1, 256, 1024]⟩
abbrev S1x4096x1024 : Shape := ⟨3, ![1, 4096, 1024]⟩
abbrev S32x2048 : Shape := ⟨2, ![32, 2048]⟩
abbrev S64x2048 : Shape := ⟨2, ![64, 2048]⟩
abbrev S64x8192 : Shape := ⟨2, ![64, 8192]⟩
abbrev S16x1024 : Shape := ⟨2, ![16, 1024]⟩
abbrev S8x64x1024 : Shape := ⟨3, ![8, 64, 1024]⟩
abbrev S8x16x128 : Shape := ⟨3, ![8, 16, 128]⟩
abbrev S1152x4096 : Shape := ⟨2, ![1152, 4096]⟩
abbrev S8x128x256 : Shape := ⟨3, ![8, 128, 256]⟩
abbrev S8x16x256 : Shape := ⟨3, ![8, 16, 256]⟩
abbrev S8x1x256 : Shape := ⟨3, ![8, 1, 256]⟩
abbrev S8x144x256 : Shape := ⟨3, ![8, 144, 256]⟩
abbrev S8x256x256 : Shape := ⟨3, ![8, 256, 256]⟩
abbrev S16x4096 : Shape := ⟨2, ![16, 4096]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x128x256 : Shape := ⟨3, ![1, 128, 256]⟩
abbrev S1x16x128 : Shape := ⟨3, ![1, 16, 128]⟩
abbrev S16x128 : Shape := ⟨2, ![16, 128]⟩
abbrev S16x256 : Shape := ⟨2, ![16, 256]⟩
abbrev S256 : Shape := ⟨1, ![256]⟩
abbrev S1x256 : Shape := ⟨2, ![1, 256]⟩
abbrev S1x16x256 : Shape := ⟨3, ![1, 16, 256]⟩
abbrev S256x256 : Shape := ⟨2, ![256, 256]⟩
abbrev S1x256x256 : Shape := ⟨3, ![1, 256, 256]⟩
abbrev S1x1x256 : Shape := ⟨3, ![1, 1, 256]⟩
abbrev S144x256 : Shape := ⟨2, ![144, 256]⟩
abbrev S1x144x256 : Shape := ⟨3, ![1, 144, 256]⟩
abbrev S64x1024 : Shape := ⟨2, ![64, 1024]⟩
abbrev S1x64x1024 : Shape := ⟨3, ![1, 64, 1024]⟩

abbrev nBuf : Space → Nat
  | .hbm => 43
  | .vmem => 42
  | .smem => 0
  | _ => 0

abbrev bufTy : (tb : Table) → Fin (tcTables nBuf tb) → BufTy
  | .hbm, ⟨0, _⟩ => ⟨S2x8x4096x128, .f32⟩
  | .hbm, ⟨1, _⟩ => ⟨S2x8x4096x128, .f32⟩
  | .hbm, ⟨2, _⟩ => ⟨S2x8x4096x128, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S1x2048x2048, .f32⟩
  | .hbm, ⟨9, _⟩ => ⟨S1x256x2048, .f32⟩
  | .hbm, ⟨10, _⟩ => ⟨S_, .bf16⟩
  | .hbm, ⟨11, _⟩ => ⟨S2x4096x4096, .bf16⟩
  | .hbm, ⟨12, _⟩ => ⟨S_, .f32⟩
  | .hbm, ⟨13, _⟩ => ⟨S2x8x4096x128, .f32⟩
  | .hbm, ⟨14, _⟩ => ⟨S2x8x4096x128, .f32⟩
  | .hbm, ⟨15, _⟩ => ⟨S2x4096x8x128, .f32⟩
  | .hbm, ⟨16, _⟩ => ⟨S2x4096x1024, .f32⟩
  | .hbm, ⟨17, _⟩ => ⟨S2x4096x1024, .bf16⟩
  | .hbm, ⟨18, _⟩ => ⟨S2x4096x8x128, .f32⟩
  | .hbm, ⟨19, _⟩ => ⟨S2x4096x1024, .f32⟩
  | .hbm, ⟨20, _⟩ => ⟨S2x4096x1024, .bf16⟩
  | .hbm, ⟨21, _⟩ => ⟨S2x4096x8x128, .f32⟩
  | .hbm, ⟨22, _⟩ => ⟨S2x4096x1024, .f32⟩
  | .hbm, ⟨23, _⟩ => ⟨S2x4096x1024, .bf16⟩
  | .hbm, ⟨24, _⟩ => ⟨S_, .bf16⟩
  | .hbm, ⟨25, _⟩ => ⟨S2x4096x2048, .bf16⟩
  | .hbm, ⟨26, _⟩ => ⟨S2x4096x9216, .bf16⟩
  | .hbm, ⟨27, _⟩ => ⟨S1024x2048, .f32⟩
  | .hbm, ⟨28, _⟩ => ⟨S1024x2048, .f32⟩
  | .hbm, ⟨29, _⟩ => ⟨S2048x2048, .f32⟩
  | .hbm, ⟨30, _⟩ => ⟨S2048x8192, .f32⟩
  | .hbm, ⟨31, _⟩ => ⟨S8192x2048, .f32⟩
  | .hbm, ⟨32, _⟩ => ⟨S2048x2048, .f32⟩
  | .hbm, ⟨33, _⟩ => ⟨S256x2048, .f32⟩
  | .hbm, ⟨34, _⟩ => ⟨S512x1024, .f32⟩
  | .hbm, ⟨35, _⟩ => ⟨S2x4096x1024, .bf16⟩
  | .hbm, ⟨36, _⟩ => ⟨S1024x2048, .bf16⟩
  | .hbm, ⟨37, _⟩ => ⟨S1024x2048, .bf16⟩
  | .hbm, ⟨38, _⟩ => ⟨S2048x2048, .bf16⟩
  | .hbm, ⟨39, _⟩ => ⟨S8x2048x1024, .bf16⟩
  | .hbm, ⟨40, _⟩ => ⟨S8192x2048, .bf16⟩
  | .hbm, ⟨41, _⟩ => ⟨S2048x2048, .bf16⟩
  | .hbm, ⟨42, _⟩ => ⟨S512x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S64x2048, .f32⟩
  | .local _ .vmem, ⟨9, _⟩ => ⟨S64x2048, .f32⟩
  | .local _ .vmem, ⟨10, _⟩ => ⟨S64x8192, .f32⟩
  | .local _ .vmem, ⟨11, _⟩ => ⟨S64x8192, .f32⟩
  | .local _ .vmem, ⟨12, _⟩ => ⟨S256x2048, .f32⟩
  | .local _ .vmem, ⟨13, _⟩ => ⟨S256x2048, .f32⟩
  | .local _ .vmem, ⟨14, _⟩ => ⟨S64x2048, .f32⟩
  | .local _ .vmem, ⟨15, _⟩ => ⟨S64x2048, .f32⟩
  | .local _ .vmem, ⟨16, _⟩ => ⟨S16x1024, .f32⟩
  | .local _ .vmem, ⟨17, _⟩ => ⟨S16x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S32x2048, .bf16⟩
  | .local _ .vmem, ⟨21, _⟩ => ⟨S32x2048, .bf16⟩
  | .local _ .vmem, ⟨22, _⟩ => ⟨S32x2048, .bf16⟩
  | .local _ .vmem, ⟨23, _⟩ => ⟨S32x2048, .bf16⟩
  | .local _ .vmem, ⟨24, _⟩ => ⟨S64x2048, .bf16⟩
  | .local _ .vmem, ⟨25, _⟩ => ⟨S64x2048, .bf16⟩
  | .local _ .vmem, ⟨26, _⟩ => ⟨S8x64x1024, .bf16⟩
  | .local _ .vmem, ⟨27, _⟩ => ⟨S8x64x1024, .bf16⟩
  | .local _ .vmem, ⟨28, _⟩ => ⟨S256x2048, .bf16⟩
  | .local _ .vmem, ⟨29, _⟩ => ⟨S256x2048, .bf16⟩
  | .local _ .vmem, ⟨30, _⟩ => ⟨S64x2048, .bf16⟩
  | .local _ .vmem, ⟨31, _⟩ => ⟨S64x2048, .bf16⟩
  | .local _ .vmem, ⟨32, _⟩ => ⟨S16x1024, .bf16⟩
  | .local _ .vmem, ⟨33, _⟩ => ⟨S16x1024, .bf16⟩
  | .local _ .vmem, ⟨34, _⟩ => ⟨S8x16x128, .f32⟩
  | .local _ .vmem, ⟨35, _⟩ => ⟨S1152x4096, .bf16⟩
  | .local _ .vmem, ⟨36, _⟩ => ⟨S8x128x256, .bf16⟩
  | .local _ .vmem, ⟨37, _⟩ => ⟨S8x16x256, .f32⟩
  | .local _ .vmem, ⟨38, _⟩ => ⟨S8x1x256, .f32⟩
  | .local _ .vmem, ⟨39, _⟩ => ⟨S8x144x256, .f32⟩
  | .local _ .vmem, ⟨40, _⟩ => ⟨S8x256x256, .f32⟩
  | .local _ .vmem, ⟨41, _⟩ => ⟨S8x256x256, .f32⟩
  | _, _ => ⟨S2x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_v22_5 : Ref sig .tc := ⟨.hbm, 40, rfl⟩
abbrev main_v22_6 : Ref sig .tc := ⟨.hbm, 41, rfl⟩
abbrev main_v22_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_scratch7 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v587 : BitVec 32 := Scalar.muli arg1 c256_i32
  v587
def k0_off1 (i : grid0.Coords) : Fin 3 → Nat :=
  let c0_237 : Index := 0#32
  let arg1 : BitVec 32 := BitVec.ofNat 32 (i 1).val
  let c256_i32 : BitVec 32 := 256#32
  let v587 : BitVec 32 := Scalar.muli arg1 c256_i32
  let v588 : BitVec 32 := v587
  let v589 : Index := Scalar.indexCast v588
  let c0_238 : Index := 0#32
  ![0, v589.toNat, 0]
def k0_mult2 (i : grid0.Coords) : BitVec 32 :=
  let arg1 : BitVec 32 := BitVec.ofNat 32 (i 1).val
  let c256_i32_246 : BitVec 32 := 256#32
  let v598 : BitVec 32 := Scalar.muli arg1 c256_i32_246
  v598
def k0_off2 (i : grid0.Coords) : Fin 3 → Nat :=
  let c0_247 : Index := 0#32
  let arg1 : BitVec 32 := BitVec.ofNat 32 (i 1).val
  let c256_i32_246 : BitVec 32 := 256#32
  let v598 : BitVec 32 := Scalar.muli arg1 c256_i32_246
  let v599 : BitVec 32 := v598
  let v600 : Index := Scalar.indexCast v599
  let c128_248 : Index := 128#32
  ![0, v600.toNat, 128]
def k0_mult3 (i : grid0.Coords) : BitVec 32 :=
  let arg1 : BitVec 32 := BitVec.ofNat 32 (i 1).val
  let c256_i32_256 : BitVec 32 := 256#32
  let v609 : BitVec 32 := Scalar.muli arg1 c256_i32_256
  v609
def k0_off3 (i : grid0.Coords) : Fin 3 → Nat :=
  let c0_257 : Index := 0#32
  let arg1 : BitVec 32 := BitVec.ofNat 32 (i 1).val
  let c256_i32_256 : BitVec 32 := 256#32
  let v609 : BitVec 32 := Scalar.muli arg1 c256_i32_256
  let v610 : BitVec 32 := v609
  let v611 : Index := Scalar.indexCast v610
  let c256_258 : Index := 256#32
  ![0, v611.toNat, 256]
def k0_mult4 (i : grid0.Coords) : BitVec 32 :=
  let arg1 : BitVec 32 := BitVec.ofNat 32 (i 1).val
  let c256_i32_266 : BitVec 32 := 256#32
  let v620 : BitVec 32 := Scalar.muli arg1 c256_i32_266
  v620
def k0_off4 (i : grid0.Coords) : Fin 3 → Nat :=
  let c0_267 : Index := 0#32
  let arg1 : BitVec 32 := BitVec.ofNat 32 (i 1).val
  let c256_i32_266 : BitVec 32 := 256#32
  let v620 : BitVec 32 := Scalar.muli arg1 c256_i32_266
  let v621 : BitVec 32 := v620
  let v622 : Index := Scalar.indexCast v621
  let c384_268 : Index := 384#32
  ![0, v622.toNat, 384]
def k0_mult5 (i : grid0.Coords) : BitVec 32 :=
  let arg1 : BitVec 32 := BitVec.ofNat 32 (i 1).val
  let c256_i32_276 : BitVec 32 := 256#32
  let v631 : BitVec 32 := Scalar.muli arg1 c256_i32_276
  v631
def k0_off5 (i : grid0.Coords) : Fin 3 → Nat :=
  let c0_277 : Index := 0#32
  let arg1 : BitVec 32 := BitVec.ofNat 32 (i 1).val
  let c256_i32_276 : BitVec 32 := 256#32
  let v631 : BitVec 32 := Scalar.muli arg1 c256_i32_276
  let v632 : BitVec 32 := v631
  let v633 : Index := Scalar.indexCast v632
  let c512_278 : Index := 512#32
  ![0, v633.toNat, 512]
def k0_mult6 (i : grid0.Coords) : BitVec 32 :=
  let arg1 : BitVec 32 := BitVec.ofNat 32 (i 1).val
  let c256_i32_286 : BitVec 32 := 256#32
  let v642 : BitVec 32 := Scalar.muli arg1 c256_i32_286
  v642
def k0_off6 (i : grid0.Coords) : Fin 3 → Nat :=
  let c0_287 : Index := 0#32
  let arg1 : BitVec 32 := BitVec.ofNat 32 (i 1).val
  let c256_i32_286 : BitVec 32 := 256#32
  let v642 : BitVec 32 := Scalar.muli arg1 c256_i32_286
  let v643 : BitVec 32 := v642
  let v644 : Index := Scalar.indexCast v643
  let c640_288 : Index := 640#32
  ![0, v644.toNat, 640]
def k0_mult7 (i : grid0.Coords) : BitVec 32 :=
  let arg1 : BitVec 32 := BitVec.ofNat 32 (i 1).val
  let c256_i32_296 : BitVec 32 := 256#32
  let v653 : BitVec 32 := Scalar.muli arg1 c256_i32_296
  v653
def k0_off7 (i : grid0.Coords) : Fin 3 → Nat :=
  let c0_297 : Index := 0#32
  let arg1 : BitVec 32 := BitVec.ofNat 32 (i 1).val
  let c256_i32_296 : BitVec 32 := 256#32
  let v653 : BitVec 32 := Scalar.muli arg1 c256_i32_296
  let v654 : BitVec 32 := v653
  let v655 : Index := Scalar.indexCast v654
  let c768_298 : Index := 768#32
  ![0, v655.toNat, 768]
def k0_mult8 (i : grid0.Coords) : BitVec 32 :=
  let arg1 : BitVec 32 := BitVec.ofNat 32 (i 1).val
  let c256_i32_306 : BitVec 32 := 256#32
  let v664 : BitVec 32 := Scalar.muli arg1 c256_i32_306
  v664
def k0_off8 (i : grid0.Coords) : Fin 3 → Nat :=
  let c0_307 : Index := 0#32
  let arg1 : BitVec 32 := BitVec.ofNat 32 (i 1).val
  let c256_i32_306 : BitVec 32 := 256#32
  let v664 : BitVec 32 := Scalar.muli arg1 c256_i32_306
  let v665 : BitVec 32 := v664
  let v666 : Index := Scalar.indexCast v665
  let c896_308 : Index := 896#32
  ![0, v666.toNat, 896]
def k0_mult9 (i : grid0.Coords) : BitVec 32 :=
  let arg1 : BitVec 32 := BitVec.ofNat 32 (i 1).val
  let c256_i32_316 : BitVec 32 := 256#32
  let v675 : BitVec 32 := Scalar.muli arg1 c256_i32_316
  v675
def k0_mult10 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_321 : BitVec 32 := 256#32
  let v681 : BitVec 32 := Scalar.muli v680 c256_i32_321
  v681
def k0_off9 (i : grid0.Coords) : Fin 3 → Nat :=
  let c0_322 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_321 : BitVec 32 := 256#32
  let v681 : BitVec 32 := Scalar.muli v680 c256_i32_321
  let v682 : BitVec 32 := v681
  let v683 : Index := Scalar.indexCast v682
  let c0_323 : Index := 0#32
  ![0, v683.toNat, 0]
def k0_mult11 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_331 : BitVec 32 := 256#32
  let v692 : BitVec 32 := Scalar.muli v680 c256_i32_331
  v692
def k0_off10 (i : grid0.Coords) : Fin 3 → Nat :=
  let c0_332 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_331 : BitVec 32 := 256#32
  let v692 : BitVec 32 := Scalar.muli v680 c256_i32_331
  let v693 : BitVec 32 := v692
  let v694 : Index := Scalar.indexCast v693
  let c128_333 : Index := 128#32
  ![0, v694.toNat, 128]
def k0_mult12 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_341 : BitVec 32 := 256#32
  let v703 : BitVec 32 := Scalar.muli v680 c256_i32_341
  v703
def k0_off11 (i : grid0.Coords) : Fin 3 → Nat :=
  let c0_342 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_341 : BitVec 32 := 256#32
  let v703 : BitVec 32 := Scalar.muli v680 c256_i32_341
  let v704 : BitVec 32 := v703
  let v705 : Index := Scalar.indexCast v704
  let c256_343 : Index := 256#32
  ![0, v705.toNat, 256]
def k0_off12 (i : grid0.Coords) : Fin 2 → Nat :=
  let c0_359 : Index := 0#32
  let arg1 : BitVec 32 := BitVec.ofNat 32 (i 1).val
  let c256_i32_316 : BitVec 32 := 256#32
  let v675 : BitVec 32 := Scalar.muli arg1 c256_i32_316
  let v676 : BitVec 32 := v675
  let v729 : Index := Scalar.indexCast v676
  ![0, v729.toNat]
def k0_mult13 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_364 : BitVec 32 := 256#32
  let v736 : BitVec 32 := Scalar.muli v680 c256_i32_364
  v736
def k0_off13 (i : grid0.Coords) : Fin 3 → Nat :=
  let c0_365 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_364 : BitVec 32 := 256#32
  let v736 : BitVec 32 := Scalar.muli v680 c256_i32_364
  let v737 : BitVec 32 := v736
  let v738 : Index := Scalar.indexCast v737
  let c384_366 : Index := 384#32
  ![0, v738.toNat, 384]
def k0_off14 (i : grid0.Coords) : Fin 2 → Nat :=
  let c144 : Index := 144#32
  let arg1 : BitVec 32 := BitVec.ofNat 32 (i 1).val
  let c256_i32_316 : BitVec 32 := 256#32
  let v675 : BitVec 32 := Scalar.muli arg1 c256_i32_316
  let v676 : BitVec 32 := v675
  let v762 : Index := Scalar.indexCast v676
  ![144, v762.toNat]
def k0_mult14 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_386 : BitVec 32 := 256#32
  let v769 : BitVec 32 := Scalar.muli v680 c256_i32_386
  v769
def k0_off15 (i : grid0.Coords) : Fin 3 → Nat :=
  let c0_387 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_386 : BitVec 32 := 256#32
  let v769 : BitVec 32 := Scalar.muli v680 c256_i32_386
  let v770 : BitVec 32 := v769
  let v771 : Index := Scalar.indexCast v770
  let c512_388 : Index := 512#32
  ![0, v771.toNat, 512]
def k0_off16 (i : grid0.Coords) : Fin 2 → Nat :=
  let c288 : Index := 288#32
  let arg1 : BitVec 32 := BitVec.ofNat 32 (i 1).val
  let c256_i32_316 : BitVec 32 := 256#32
  let v675 : BitVec 32 := Scalar.muli arg1 c256_i32_316
  let v676 : BitVec 32 := v675
  let v795 : Index := Scalar.indexCast v676
  ![288, v795.toNat]
def k0_mult15 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_408 : BitVec 32 := 256#32
  let v802 : BitVec 32 := Scalar.muli v680 c256_i32_408
  v802
def k0_off17 (i : grid0.Coords) : Fin 3 → Nat :=
  let c0_409 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_408 : BitVec 32 := 256#32
  let v802 : BitVec 32 := Scalar.muli v680 c256_i32_408
  let v803 : BitVec 32 := v802
  let v804 : Index := Scalar.indexCast v803
  let c640_410 : Index := 640#32
  ![0, v804.toNat, 640]
def k0_off18 (i : grid0.Coords) : Fin 2 → Nat :=
  let c432 : Index := 432#32
  let arg1 : BitVec 32 := BitVec.ofNat 32 (i 1).val
  let c256_i32_316 : BitVec 32 := 256#32
  let v675 : BitVec 32 := Scalar.muli arg1 c256_i32_316
  let v676 : BitVec 32 := v675
  let v828 : Index := Scalar.indexCast v676
  ![432, v828.toNat]
def k0_mult16 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_430 : BitVec 32 := 256#32
  let v835 : BitVec 32 := Scalar.muli v680 c256_i32_430
  v835
def k0_off19 (i : grid0.Coords) : Fin 3 → Nat :=
  let c0_431 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_430 : BitVec 32 := 256#32
  let v835 : BitVec 32 := Scalar.muli v680 c256_i32_430
  let v836 : BitVec 32 := v835
  let v837 : Index := Scalar.indexCast v836
  let c768_432 : Index := 768#32
  ![0, v837.toNat, 768]
def k0_off20 (i : grid0.Coords) : Fin 2 → Nat :=
  let c576 : Index := 576#32
  let arg1 : BitVec 32 := BitVec.ofNat 32 (i 1).val
  let c256_i32_316 : BitVec 32 := 256#32
  let v675 : BitVec 32 := Scalar.muli arg1 c256_i32_316
  let v676 : BitVec 32 := v675
  let v861 : Index := Scalar.indexCast v676
  ![576, v861.toNat]
def k0_mult17 (i : grid0.Coords) : BitVec 32 :=
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_452 : BitVec 32 := 256#32
  let v868 : BitVec 32 := Scalar.muli v680 c256_i32_452
  v868
def k0_off21 (i : grid0.Coords) : Fin 3 → Nat :=
  let c0_453 : Index := 0#32
  let arg1 : BitVec 32 := BitVec.ofNat 32 (i 1).val
  let c1_i32_317 : BitVec 32 := 1#32
  let v677 : BitVec 32 := Scalar.subi arg1 c1_i32_317
  let c0_i32_318 : BitVec 32 := 0#32
  let v678 : BitVec 32 := Scalar.maxsi v677 c0_i32_318
  let c0_i32_320 : BitVec 32 := 0#32
  let c0_i32_319 : BitVec 32 := 0#32
  let v679 : BitVec 32 := Scalar.maxsi c0_i32_320 c0_i32_319
  let v680 : BitVec 32 := Scalar.minsi v678 v679
  let c256_i32_452 : BitVec 32 := 256#32
  let v868 : BitVec 32 := Scalar.muli v680 c256_i32_452
  let v869 : BitVec 32 := v868
  let v870 : Index := Scalar.indexCast v869
  let c896_454 : Index := 896#32
  ![0, v870.toNat, 896]
def k0_off22 (i : grid0.Coords) : Fin 2 → Nat :=
  let c720 : Index := 720#32
  let arg1 : BitVec 32 := BitVec.ofNat 32 (i 1).val
  let c256_i32_316 : BitVec 32 := 256#32
  let v675 : BitVec 32 := Scalar.muli arg1 c256_i32_316
  let v676 : BitVec 32 := v675
  let v894 : Index := Scalar.indexCast v676
  ![720, v894.toNat]
def k0_off23 (i : grid0.Coords) : Fin 2 → Nat :=
  let c864 : Index := 864#32
  let arg1 : BitVec 32 := BitVec.ofNat 32 (i 1).val
  let c256_i32_316 : BitVec 32 := 256#32
  let v675 : BitVec 32 := Scalar.muli arg1 c256_i32_316
  let v676 : BitVec 32 := v675
  let v916 : Index := Scalar.indexCast v676
  ![864, v916.toNat]
def k0_off24 (i : grid0.Coords) : Fin 2 → Nat :=
  let c1008 : Index := 1008#32
  let arg1 : BitVec 32 := BitVec.ofNat 32 (i 1).val
  let c256_i32_316 : BitVec 32 := 256#32
  let v675 : BitVec 32 := Scalar.muli arg1 c256_i32_316
  let v676 : BitVec 32 := v675
  let v938 : Index := Scalar.indexCast v676
  ![1008, v938.toNat]
@[reducible] def k0_t1_loop (i : grid0.Coords) : Scf.Loop 32 :=
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_508 : BitVec 32 := 1#32
  ⟨c0_i32_506, v966, c1_i32_508⟩
def k0_mult18 (i : grid0.Coords) (k0_t1 : Fin (k0_t1_loop i).trips) : BitVec 32 :=
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  v1143
def k0_mult19 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_654 : BitVec 32 := 256#32
  let v1149 : BitVec 32 := Scalar.muli v1148 c256_i32_654
  v1149
def k0_off25 (i : grid0.Coords) (k0_t1 : Fin (k0_t1_loop i).trips) (c1_i32_649 : BitVec 32) : Fin 3 → Nat :=
  let c0_655 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_654 : BitVec 32 := 256#32
  let v1149 : BitVec 32 := Scalar.muli v1148 c256_i32_654
  let v1150 : BitVec 32 := v1149
  let v1151 : Index := Scalar.indexCast v1150
  let c0_656 : Index := 0#32
  ![0, v1151.toNat, 0]
def k0_mult20 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_664 : BitVec 32 := 256#32
  let v1160 : BitVec 32 := Scalar.muli v1148 c256_i32_664
  v1160
def k0_off26 (i : grid0.Coords) (k0_t1 : Fin (k0_t1_loop i).trips) (c1_i32_649 : BitVec 32) : Fin 3 → Nat :=
  let c0_665 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_664 : BitVec 32 := 256#32
  let v1160 : BitVec 32 := Scalar.muli v1148 c256_i32_664
  let v1161 : BitVec 32 := v1160
  let v1162 : Index := Scalar.indexCast v1161
  let c128_666 : Index := 128#32
  ![0, v1162.toNat, 128]
def k0_mult21 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_674 : BitVec 32 := 256#32
  let v1171 : BitVec 32 := Scalar.muli v1148 c256_i32_674
  v1171
def k0_off27 (i : grid0.Coords) (k0_t1 : Fin (k0_t1_loop i).trips) (c1_i32_649 : BitVec 32) : Fin 3 → Nat :=
  let c0_675 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_674 : BitVec 32 := 256#32
  let v1171 : BitVec 32 := Scalar.muli v1148 c256_i32_674
  let v1172 : BitVec 32 := v1171
  let v1173 : Index := Scalar.indexCast v1172
  let c256_676 : Index := 256#32
  ![0, v1173.toNat, 256]
def k0_off28 (i : grid0.Coords) (k0_t1 : Fin (k0_t1_loop i).trips) : Fin 3 → Nat :=
  let c0_687 : Index := 0#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1184 : Index := Scalar.indexCast v1140
  let c0_688 : Index := 0#32
  ![0, v1184.toNat, 0]
def k0_off29 (i : grid0.Coords) (k0_t1 : Fin (k0_t1_loop i).trips) : Fin 2 → Nat :=
  let c0_696 : Index := 0#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1202 : Index := Scalar.indexCast v1144
  ![0, v1202.toNat]
def k0_mult22 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_704 : BitVec 32 := 256#32
  let v1214 : BitVec 32 := Scalar.muli v1148 c256_i32_704
  v1214
def k0_off30 (i : grid0.Coords) (k0_t1 : Fin (k0_t1_loop i).trips) (c1_i32_649 : BitVec 32) : Fin 3 → Nat :=
  let c0_705 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_704 : BitVec 32 := 256#32
  let v1214 : BitVec 32 := Scalar.muli v1148 c256_i32_704
  let v1215 : BitVec 32 := v1214
  let v1216 : Index := Scalar.indexCast v1215
  let c384_706 : Index := 384#32
  ![0, v1216.toNat, 384]
def k0_off31 (i : grid0.Coords) (k0_t1 : Fin (k0_t1_loop i).trips) : Fin 3 → Nat :=
  let c1_717 : Index := 1#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1227 : Index := Scalar.indexCast v1140
  let c0_718 : Index := 0#32
  ![1, v1227.toNat, 0]
def k0_off32 (i : grid0.Coords) (k0_t1 : Fin (k0_t1_loop i).trips) : Fin 2 → Nat :=
  let c144_726 : Index := 144#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1245 : Index := Scalar.indexCast v1144
  ![144, v1245.toNat]
def k0_mult23 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_734 : BitVec 32 := 256#32
  let v1257 : BitVec 32 := Scalar.muli v1148 c256_i32_734
  v1257
def k0_off33 (i : grid0.Coords) (k0_t1 : Fin (k0_t1_loop i).trips) (c1_i32_649 : BitVec 32) : Fin 3 → Nat :=
  let c0_735 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_734 : BitVec 32 := 256#32
  let v1257 : BitVec 32 := Scalar.muli v1148 c256_i32_734
  let v1258 : BitVec 32 := v1257
  let v1259 : Index := Scalar.indexCast v1258
  let c512_736 : Index := 512#32
  ![0, v1259.toNat, 512]
def k0_off34 (i : grid0.Coords) (k0_t1 : Fin (k0_t1_loop i).trips) : Fin 3 → Nat :=
  let c2_747 : Index := 2#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1270 : Index := Scalar.indexCast v1140
  let c0_748 : Index := 0#32
  ![2, v1270.toNat, 0]
def k0_off35 (i : grid0.Coords) (k0_t1 : Fin (k0_t1_loop i).trips) : Fin 2 → Nat :=
  let c288_756 : Index := 288#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1288 : Index := Scalar.indexCast v1144
  ![288, v1288.toNat]
def k0_mult24 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_764 : BitVec 32 := 256#32
  let v1300 : BitVec 32 := Scalar.muli v1148 c256_i32_764
  v1300
def k0_off36 (i : grid0.Coords) (k0_t1 : Fin (k0_t1_loop i).trips) (c1_i32_649 : BitVec 32) : Fin 3 → Nat :=
  let c0_765 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_764 : BitVec 32 := 256#32
  let v1300 : BitVec 32 := Scalar.muli v1148 c256_i32_764
  let v1301 : BitVec 32 := v1300
  let v1302 : Index := Scalar.indexCast v1301
  let c640_766 : Index := 640#32
  ![0, v1302.toNat, 640]
def k0_off37 (i : grid0.Coords) (k0_t1 : Fin (k0_t1_loop i).trips) : Fin 3 → Nat :=
  let c3_777 : Index := 3#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1313 : Index := Scalar.indexCast v1140
  let c0_778 : Index := 0#32
  ![3, v1313.toNat, 0]
def k0_off38 (i : grid0.Coords) (k0_t1 : Fin (k0_t1_loop i).trips) : Fin 2 → Nat :=
  let c432_786 : Index := 432#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1331 : Index := Scalar.indexCast v1144
  ![432, v1331.toNat]
def k0_mult25 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_794 : BitVec 32 := 256#32
  let v1343 : BitVec 32 := Scalar.muli v1148 c256_i32_794
  v1343
def k0_off39 (i : grid0.Coords) (k0_t1 : Fin (k0_t1_loop i).trips) (c1_i32_649 : BitVec 32) : Fin 3 → Nat :=
  let c0_795 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_794 : BitVec 32 := 256#32
  let v1343 : BitVec 32 := Scalar.muli v1148 c256_i32_794
  let v1344 : BitVec 32 := v1343
  let v1345 : Index := Scalar.indexCast v1344
  let c768_796 : Index := 768#32
  ![0, v1345.toNat, 768]
def k0_off40 (i : grid0.Coords) (k0_t1 : Fin (k0_t1_loop i).trips) : Fin 3 → Nat :=
  let c4_807 : Index := 4#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1356 : Index := Scalar.indexCast v1140
  let c0_808 : Index := 0#32
  ![4, v1356.toNat, 0]
def k0_off41 (i : grid0.Coords) (k0_t1 : Fin (k0_t1_loop i).trips) : Fin 2 → Nat :=
  let c576_816 : Index := 576#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1374 : Index := Scalar.indexCast v1144
  ![576, v1374.toNat]
def k0_mult26 (i : grid0.Coords) (k0_t1 : Fin (k0_t1_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_824 : BitVec 32 := 256#32
  let v1386 : BitVec 32 := Scalar.muli v1148 c256_i32_824
  v1386
def k0_off42 (i : grid0.Coords) (k0_t1 : Fin (k0_t1_loop i).trips) (c1_i32_649 : BitVec 32) : Fin 3 → Nat :=
  let c0_825 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c1_i32_508 : BitVec 32 := 1#32
  let arg28 : BitVec 32 := Scf.iv c0_i32_506 c1_i32_508 k0_t1
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_824 : BitVec 32 := 256#32
  let v1386 : BitVec 32 := Scalar.muli v1148 c256_i32_824
  let v1387 : BitVec 32 := v1386
  let v1388 : Index := Scalar.indexCast v1387
  let c896_826 : Index := 896#32
  ![0, v1388.toNat, 896]
def k0_off43 (i : grid0.Coords) (k0_t1 : Fin (k0_t1_loop i).trips) : Fin 3 → Nat :=
  let c5_837 : Index := 5#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1399 : Index := Scalar.indexCast v1140
  let c0_838 : Index := 0#32
  ![5, v1399.toNat, 0]
def k0_off44 (i : grid0.Coords) (k0_t1 : Fin (k0_t1_loop i).trips) : Fin 2 → Nat :=
  let c720_846 : Index := 720#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1417 : Index := Scalar.indexCast v1144
  ![720, v1417.toNat]
def k0_off45 (i : grid0.Coords) (k0_t1 : Fin (k0_t1_loop i).trips) : Fin 3 → Nat :=
  let c6_857 : Index := 6#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1431 : Index := Scalar.indexCast v1140
  let c0_858 : Index := 0#32
  ![6, v1431.toNat, 0]
def k0_off46 (i : grid0.Coords) (k0_t1 : Fin (k0_t1_loop i).trips) : Fin 2 → Nat :=
  let c864_866 : Index := 864#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1449 : Index := Scalar.indexCast v1144
  ![864, v1449.toNat]
def k0_off47 (i : grid0.Coords) (k0_t1 : Fin (k0_t1_loop i).trips) : Fin 3 → Nat :=
  let c7_877 : Index := 7#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let v1463 : Index := Scalar.indexCast v1140
  let c0_878 : Index := 0#32
  ![7, v1463.toNat, 0]
def k0_off48 (i : grid0.Coords) (k0_t1 : Fin (k0_t1_loop i).trips) : Fin 2 → Nat :=
  let c1008_886 : Index := 1008#32
  let c2_i32_647 : BitVec 32 := 2#32
  let c0_i32_506 : BitVec 32 := 0#32
  let c1_i32_508 : BitVec 32 := 1#32
  let arg28 : BitVec 32 := Scf.iv c0_i32_506 c1_i32_508 k0_t1
  let v1140 : BitVec 32 := Scalar.muli c2_i32_647 arg28
  let c256_i32_650 : BitVec 32 := 256#32
  let v1143 : BitVec 32 := Scalar.muli v1140 c256_i32_650
  let v1144 : BitVec 32 := v1143
  let v1481 : Index := Scalar.indexCast v1144
  ![1008, v1481.toNat]
def k0_mult27 (i : grid0.Coords) (k0_t1 : Fin (k0_t1_loop i).trips) : BitVec 32 :=
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  v1497
def k0_mult28 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_902 : BitVec 32 := 256#32
  let v1503 : BitVec 32 := Scalar.muli v1502 c256_i32_902
  v1503
def k0_mult29 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_912 : BitVec 32 := 256#32
  let v1514 : BitVec 32 := Scalar.muli v1502 c256_i32_912
  v1514
def k0_mult30 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_922 : BitVec 32 := 256#32
  let v1525 : BitVec 32 := Scalar.muli v1502 c256_i32_922
  v1525
def k0_off49 (i : grid0.Coords) (k0_t1 : Fin (k0_t1_loop i).trips) : Fin 3 → Nat :=
  let c0_935 : Index := 0#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1538 : Index := Scalar.indexCast v1494
  let c0_936 : Index := 0#32
  ![0, v1538.toNat, 0]
def k0_off50 (i : grid0.Coords) (k0_t1 : Fin (k0_t1_loop i).trips) : Fin 2 → Nat :=
  let c0_944 : Index := 0#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1556 : Index := Scalar.indexCast v1498
  ![0, v1556.toNat]
def k0_mult31 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_952 : BitVec 32 := 256#32
  let v1568 : BitVec 32 := Scalar.muli v1502 c256_i32_952
  v1568
def k0_off51 (i : grid0.Coords) (k0_t1 : Fin (k0_t1_loop i).trips) : Fin 3 → Nat :=
  let c1_965 : Index := 1#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1581 : Index := Scalar.indexCast v1494
  let c0_966 : Index := 0#32
  ![1, v1581.toNat, 0]
def k0_off52 (i : grid0.Coords) (k0_t1 : Fin (k0_t1_loop i).trips) : Fin 2 → Nat :=
  let c144_974 : Index := 144#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1599 : Index := Scalar.indexCast v1498
  ![144, v1599.toNat]
def k0_mult32 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_982 : BitVec 32 := 256#32
  let v1611 : BitVec 32 := Scalar.muli v1502 c256_i32_982
  v1611
def k0_off53 (i : grid0.Coords) (k0_t1 : Fin (k0_t1_loop i).trips) : Fin 3 → Nat :=
  let c2_995 : Index := 2#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1624 : Index := Scalar.indexCast v1494
  let c0_996 : Index := 0#32
  ![2, v1624.toNat, 0]
def k0_off54 (i : grid0.Coords) (k0_t1 : Fin (k0_t1_loop i).trips) : Fin 2 → Nat :=
  let c288_1004 : Index := 288#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1642 : Index := Scalar.indexCast v1498
  ![288, v1642.toNat]
def k0_mult33 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1012 : BitVec 32 := 256#32
  let v1654 : BitVec 32 := Scalar.muli v1502 c256_i32_1012
  v1654
def k0_off55 (i : grid0.Coords) (k0_t1 : Fin (k0_t1_loop i).trips) : Fin 3 → Nat :=
  let c3_1025 : Index := 3#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1667 : Index := Scalar.indexCast v1494
  let c0_1026 : Index := 0#32
  ![3, v1667.toNat, 0]
def k0_off56 (i : grid0.Coords) (k0_t1 : Fin (k0_t1_loop i).trips) : Fin 2 → Nat :=
  let c432_1034 : Index := 432#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1685 : Index := Scalar.indexCast v1498
  ![432, v1685.toNat]
def k0_mult34 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1042 : BitVec 32 := 256#32
  let v1697 : BitVec 32 := Scalar.muli v1502 c256_i32_1042
  v1697
def k0_off57 (i : grid0.Coords) (k0_t1 : Fin (k0_t1_loop i).trips) : Fin 3 → Nat :=
  let c4_1055 : Index := 4#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1710 : Index := Scalar.indexCast v1494
  let c0_1056 : Index := 0#32
  ![4, v1710.toNat, 0]
def k0_off58 (i : grid0.Coords) (k0_t1 : Fin (k0_t1_loop i).trips) : Fin 2 → Nat :=
  let c576_1064 : Index := 576#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1728 : Index := Scalar.indexCast v1498
  ![576, v1728.toNat]
def k0_mult35 (i : grid0.Coords) (k0_t1 : Fin (k0_t1_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c1_i32_508 : BitVec 32 := 1#32
  let arg28 : BitVec 32 := Scf.iv c0_i32_506 c1_i32_508 k0_t1
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1072 : BitVec 32 := 256#32
  let v1740 : BitVec 32 := Scalar.muli v1502 c256_i32_1072
  v1740
def k0_off59 (i : grid0.Coords) (k0_t1 : Fin (k0_t1_loop i).trips) : Fin 3 → Nat :=
  let c5_1085 : Index := 5#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1753 : Index := Scalar.indexCast v1494
  let c0_1086 : Index := 0#32
  ![5, v1753.toNat, 0]
def k0_off60 (i : grid0.Coords) (k0_t1 : Fin (k0_t1_loop i).trips) : Fin 2 → Nat :=
  let c720_1094 : Index := 720#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1771 : Index := Scalar.indexCast v1498
  ![720, v1771.toNat]
def k0_off61 (i : grid0.Coords) (k0_t1 : Fin (k0_t1_loop i).trips) : Fin 3 → Nat :=
  let c6_1105 : Index := 6#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1785 : Index := Scalar.indexCast v1494
  let c0_1106 : Index := 0#32
  ![6, v1785.toNat, 0]
def k0_off62 (i : grid0.Coords) (k0_t1 : Fin (k0_t1_loop i).trips) : Fin 2 → Nat :=
  let c864_1114 : Index := 864#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1803 : Index := Scalar.indexCast v1498
  ![864, v1803.toNat]
def k0_off63 (i : grid0.Coords) (k0_t1 : Fin (k0_t1_loop i).trips) : Fin 3 → Nat :=
  let c7_1125 : Index := 7#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let v1817 : Index := Scalar.indexCast v1494
  let c0_1126 : Index := 0#32
  ![7, v1817.toNat, 0]
def k0_off64 (i : grid0.Coords) (k0_t1 : Fin (k0_t1_loop i).trips) : Fin 2 → Nat :=
  let c1008_1134 : Index := 1008#32
  let c2_i32_894 : BitVec 32 := 2#32
  let c0_i32_506 : BitVec 32 := 0#32
  let c1_i32_508 : BitVec 32 := 1#32
  let arg28 : BitVec 32 := Scf.iv c0_i32_506 c1_i32_508 k0_t1
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1835 : Index := Scalar.indexCast v1498
  ![1008, v1835.toNat]
@[reducible] def k0_t2_loop (i : grid0.Coords) : Scf.Loop 32 :=
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let v963 : BitVec 32 := Scalar.addi c0_i32_506 v962
  let c1_i32_509 : BitVec 32 := 1#32
  ⟨v966, v963, c1_i32_509⟩
def k0_mult36 (i : grid0.Coords) (k0_t2 : Fin (k0_t2_loop i).trips) : BitVec 32 :=
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  v1143
def k0_mult37 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_654 : BitVec 32 := 256#32
  let v1149 : BitVec 32 := Scalar.muli v1148 c256_i32_654
  v1149
def k0_off65 (i : grid0.Coords) (k0_t2 : Fin (k0_t2_loop i).trips) (c1_i32_649 : BitVec 32) : Fin 3 → Nat :=
  let c0_655 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_654 : BitVec 32 := 256#32
  let v1149 : BitVec 32 := Scalar.muli v1148 c256_i32_654
  let v1150 : BitVec 32 := v1149
  let v1151 : Index := Scalar.indexCast v1150
  let c0_656 : Index := 0#32
  ![0, v1151.toNat, 0]
def k0_mult38 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_664 : BitVec 32 := 256#32
  let v1160 : BitVec 32 := Scalar.muli v1148 c256_i32_664
  v1160
def k0_off66 (i : grid0.Coords) (k0_t2 : Fin (k0_t2_loop i).trips) (c1_i32_649 : BitVec 32) : Fin 3 → Nat :=
  let c0_665 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_664 : BitVec 32 := 256#32
  let v1160 : BitVec 32 := Scalar.muli v1148 c256_i32_664
  let v1161 : BitVec 32 := v1160
  let v1162 : Index := Scalar.indexCast v1161
  let c128_666 : Index := 128#32
  ![0, v1162.toNat, 128]
def k0_mult39 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_674 : BitVec 32 := 256#32
  let v1171 : BitVec 32 := Scalar.muli v1148 c256_i32_674
  v1171
def k0_off67 (i : grid0.Coords) (k0_t2 : Fin (k0_t2_loop i).trips) (c1_i32_649 : BitVec 32) : Fin 3 → Nat :=
  let c0_675 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_674 : BitVec 32 := 256#32
  let v1171 : BitVec 32 := Scalar.muli v1148 c256_i32_674
  let v1172 : BitVec 32 := v1171
  let v1173 : Index := Scalar.indexCast v1172
  let c256_676 : Index := 256#32
  ![0, v1173.toNat, 256]
def k0_off68 (i : grid0.Coords) (k0_t2 : Fin (k0_t2_loop i).trips) : Fin 3 → Nat :=
  let c0_687 : Index := 0#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1184 : Index := Scalar.indexCast v1140
  let c0_688 : Index := 0#32
  ![0, v1184.toNat, 0]
def k0_off69 (i : grid0.Coords) (k0_t2 : Fin (k0_t2_loop i).trips) : Fin 2 → Nat :=
  let c0_696 : Index := 0#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1202 : Index := Scalar.indexCast v1144
  ![0, v1202.toNat]
def k0_mult40 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_704 : BitVec 32 := 256#32
  let v1214 : BitVec 32 := Scalar.muli v1148 c256_i32_704
  v1214
def k0_off70 (i : grid0.Coords) (k0_t2 : Fin (k0_t2_loop i).trips) (c1_i32_649 : BitVec 32) : Fin 3 → Nat :=
  let c0_705 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_704 : BitVec 32 := 256#32
  let v1214 : BitVec 32 := Scalar.muli v1148 c256_i32_704
  let v1215 : BitVec 32 := v1214
  let v1216 : Index := Scalar.indexCast v1215
  let c384_706 : Index := 384#32
  ![0, v1216.toNat, 384]
def k0_off71 (i : grid0.Coords) (k0_t2 : Fin (k0_t2_loop i).trips) : Fin 3 → Nat :=
  let c1_717 : Index := 1#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1227 : Index := Scalar.indexCast v1140
  let c0_718 : Index := 0#32
  ![1, v1227.toNat, 0]
def k0_off72 (i : grid0.Coords) (k0_t2 : Fin (k0_t2_loop i).trips) : Fin 2 → Nat :=
  let c144_726 : Index := 144#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1245 : Index := Scalar.indexCast v1144
  ![144, v1245.toNat]
def k0_mult41 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_734 : BitVec 32 := 256#32
  let v1257 : BitVec 32 := Scalar.muli v1148 c256_i32_734
  v1257
def k0_off73 (i : grid0.Coords) (k0_t2 : Fin (k0_t2_loop i).trips) (c1_i32_649 : BitVec 32) : Fin 3 → Nat :=
  let c0_735 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_734 : BitVec 32 := 256#32
  let v1257 : BitVec 32 := Scalar.muli v1148 c256_i32_734
  let v1258 : BitVec 32 := v1257
  let v1259 : Index := Scalar.indexCast v1258
  let c512_736 : Index := 512#32
  ![0, v1259.toNat, 512]
def k0_off74 (i : grid0.Coords) (k0_t2 : Fin (k0_t2_loop i).trips) : Fin 3 → Nat :=
  let c2_747 : Index := 2#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1270 : Index := Scalar.indexCast v1140
  let c0_748 : Index := 0#32
  ![2, v1270.toNat, 0]
def k0_off75 (i : grid0.Coords) (k0_t2 : Fin (k0_t2_loop i).trips) : Fin 2 → Nat :=
  let c288_756 : Index := 288#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1288 : Index := Scalar.indexCast v1144
  ![288, v1288.toNat]
def k0_mult42 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_764 : BitVec 32 := 256#32
  let v1300 : BitVec 32 := Scalar.muli v1148 c256_i32_764
  v1300
def k0_off76 (i : grid0.Coords) (k0_t2 : Fin (k0_t2_loop i).trips) (c1_i32_649 : BitVec 32) : Fin 3 → Nat :=
  let c0_765 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_764 : BitVec 32 := 256#32
  let v1300 : BitVec 32 := Scalar.muli v1148 c256_i32_764
  let v1301 : BitVec 32 := v1300
  let v1302 : Index := Scalar.indexCast v1301
  let c640_766 : Index := 640#32
  ![0, v1302.toNat, 640]
def k0_off77 (i : grid0.Coords) (k0_t2 : Fin (k0_t2_loop i).trips) : Fin 3 → Nat :=
  let c3_777 : Index := 3#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1313 : Index := Scalar.indexCast v1140
  let c0_778 : Index := 0#32
  ![3, v1313.toNat, 0]
def k0_off78 (i : grid0.Coords) (k0_t2 : Fin (k0_t2_loop i).trips) : Fin 2 → Nat :=
  let c432_786 : Index := 432#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1331 : Index := Scalar.indexCast v1144
  ![432, v1331.toNat]
def k0_mult43 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_794 : BitVec 32 := 256#32
  let v1343 : BitVec 32 := Scalar.muli v1148 c256_i32_794
  v1343
def k0_off79 (i : grid0.Coords) (k0_t2 : Fin (k0_t2_loop i).trips) (c1_i32_649 : BitVec 32) : Fin 3 → Nat :=
  let c0_795 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_794 : BitVec 32 := 256#32
  let v1343 : BitVec 32 := Scalar.muli v1148 c256_i32_794
  let v1344 : BitVec 32 := v1343
  let v1345 : Index := Scalar.indexCast v1344
  let c768_796 : Index := 768#32
  ![0, v1345.toNat, 768]
def k0_off80 (i : grid0.Coords) (k0_t2 : Fin (k0_t2_loop i).trips) : Fin 3 → Nat :=
  let c4_807 : Index := 4#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1356 : Index := Scalar.indexCast v1140
  let c0_808 : Index := 0#32
  ![4, v1356.toNat, 0]
def k0_off81 (i : grid0.Coords) (k0_t2 : Fin (k0_t2_loop i).trips) : Fin 2 → Nat :=
  let c576_816 : Index := 576#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1374 : Index := Scalar.indexCast v1144
  ![576, v1374.toNat]
def k0_mult44 (i : grid0.Coords) (k0_t2 : Fin (k0_t2_loop i).trips) : BitVec 32 :=
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let c1_i32_649 : BitVec 32 := 1#32
  let v1142 : BitVec 32 := Scalar.addi v1141 c1_i32_649
  let v1147 : BitVec 32 := Scalar.maxsi c0_i32_653 v1142
  let v1148 : BitVec 32 := Scalar.minsi v1146 v1147
  let c256_i32_824 : BitVec 32 := 256#32
  let v1386 : BitVec 32 := Scalar.muli v1148 c256_i32_824
  v1386
def k0_off82 (i : grid0.Coords) (k0_t2 : Fin (k0_t2_loop i).trips) (c1_i32_649 : BitVec 32) : Fin 3 → Nat :=
  let c0_825 : Index := 0#32
  let arg1 : BitVec 32 := BitVec.ofNat 32 (i 1).val
  let c1_i32_651 : BitVec 32 := 1#32
  let v1145 : BitVec 32 := Scalar.subi arg1 c1_i32_651
  let c0_i32_652 : BitVec 32 := 0#32
  let v1146 : BitVec 32 := Scalar.maxsi v1145 c0_i32_652
  let c0_i32_653 : BitVec 32 := 0#32
  let c2_i32_648 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1141 : BitVec 32 := Scalar.muli c2_i32_648 arg28
  let v1142 : BitVec 32 := Scalar.addi v1141 c1_i32_649
  let v1147 : BitVec 32 := Scalar.maxsi c0_i32_653 v1142
  let v1148 : BitVec 32 := Scalar.minsi v1146 v1147
  let c256_i32_824 : BitVec 32 := 256#32
  let v1386 : BitVec 32 := Scalar.muli v1148 c256_i32_824
  let v1387 : BitVec 32 := v1386
  let v1388 : Index := Scalar.indexCast v1387
  let c896_826 : Index := 896#32
  ![0, v1388.toNat, 896]
def k0_off83 (i : grid0.Coords) (k0_t2 : Fin (k0_t2_loop i).trips) : Fin 3 → Nat :=
  let c5_837 : Index := 5#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1399 : Index := Scalar.indexCast v1140
  let c0_838 : Index := 0#32
  ![5, v1399.toNat, 0]
def k0_off84 (i : grid0.Coords) (k0_t2 : Fin (k0_t2_loop i).trips) : Fin 2 → Nat :=
  let c720_846 : Index := 720#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1417 : Index := Scalar.indexCast v1144
  ![720, v1417.toNat]
def k0_off85 (i : grid0.Coords) (k0_t2 : Fin (k0_t2_loop i).trips) : Fin 3 → Nat :=
  let c6_857 : Index := 6#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1431 : Index := Scalar.indexCast v1140
  let c0_858 : Index := 0#32
  ![6, v1431.toNat, 0]
def k0_off86 (i : grid0.Coords) (k0_t2 : Fin (k0_t2_loop i).trips) : Fin 2 → Nat :=
  let c864_866 : Index := 864#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1449 : Index := Scalar.indexCast v1144
  ![864, v1449.toNat]
def k0_off87 (i : grid0.Coords) (k0_t2 : Fin (k0_t2_loop i).trips) : Fin 3 → Nat :=
  let c7_877 : Index := 7#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let v1463 : Index := Scalar.indexCast v1140
  let c0_878 : Index := 0#32
  ![7, v1463.toNat, 0]
def k0_off88 (i : grid0.Coords) (k0_t2 : Fin (k0_t2_loop i).trips) : Fin 2 → Nat :=
  let c1008_886 : Index := 1008#32
  let c2_i32_647 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1140 : BitVec 32 := Scalar.muli c2_i32_647 arg28
  let c256_i32_650 : BitVec 32 := 256#32
  let v1143 : BitVec 32 := Scalar.muli v1140 c256_i32_650
  let v1144 : BitVec 32 := v1143
  let v1481 : Index := Scalar.indexCast v1144
  ![1008, v1481.toNat]
def k0_mult45 (i : grid0.Coords) (k0_t2 : Fin (k0_t2_loop i).trips) : BitVec 32 :=
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  v1497
def k0_mult46 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_902 : BitVec 32 := 256#32
  let v1503 : BitVec 32 := Scalar.muli v1502 c256_i32_902
  v1503
def k0_mult47 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_912 : BitVec 32 := 256#32
  let v1514 : BitVec 32 := Scalar.muli v1502 c256_i32_912
  v1514
def k0_mult48 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_922 : BitVec 32 := 256#32
  let v1525 : BitVec 32 := Scalar.muli v1502 c256_i32_922
  v1525
def k0_off89 (i : grid0.Coords) (k0_t2 : Fin (k0_t2_loop i).trips) : Fin 3 → Nat :=
  let c0_935 : Index := 0#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1538 : Index := Scalar.indexCast v1494
  let c0_936 : Index := 0#32
  ![0, v1538.toNat, 0]
def k0_off90 (i : grid0.Coords) (k0_t2 : Fin (k0_t2_loop i).trips) : Fin 2 → Nat :=
  let c0_944 : Index := 0#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1556 : Index := Scalar.indexCast v1498
  ![0, v1556.toNat]
def k0_mult49 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_952 : BitVec 32 := 256#32
  let v1568 : BitVec 32 := Scalar.muli v1502 c256_i32_952
  v1568
def k0_off91 (i : grid0.Coords) (k0_t2 : Fin (k0_t2_loop i).trips) : Fin 3 → Nat :=
  let c1_965 : Index := 1#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1581 : Index := Scalar.indexCast v1494
  let c0_966 : Index := 0#32
  ![1, v1581.toNat, 0]
def k0_off92 (i : grid0.Coords) (k0_t2 : Fin (k0_t2_loop i).trips) : Fin 2 → Nat :=
  let c144_974 : Index := 144#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1599 : Index := Scalar.indexCast v1498
  ![144, v1599.toNat]
def k0_mult50 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_982 : BitVec 32 := 256#32
  let v1611 : BitVec 32 := Scalar.muli v1502 c256_i32_982
  v1611
def k0_off93 (i : grid0.Coords) (k0_t2 : Fin (k0_t2_loop i).trips) : Fin 3 → Nat :=
  let c2_995 : Index := 2#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1624 : Index := Scalar.indexCast v1494
  let c0_996 : Index := 0#32
  ![2, v1624.toNat, 0]
def k0_off94 (i : grid0.Coords) (k0_t2 : Fin (k0_t2_loop i).trips) : Fin 2 → Nat :=
  let c288_1004 : Index := 288#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1642 : Index := Scalar.indexCast v1498
  ![288, v1642.toNat]
def k0_mult51 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1012 : BitVec 32 := 256#32
  let v1654 : BitVec 32 := Scalar.muli v1502 c256_i32_1012
  v1654
def k0_off95 (i : grid0.Coords) (k0_t2 : Fin (k0_t2_loop i).trips) : Fin 3 → Nat :=
  let c3_1025 : Index := 3#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1667 : Index := Scalar.indexCast v1494
  let c0_1026 : Index := 0#32
  ![3, v1667.toNat, 0]
def k0_off96 (i : grid0.Coords) (k0_t2 : Fin (k0_t2_loop i).trips) : Fin 2 → Nat :=
  let c432_1034 : Index := 432#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1685 : Index := Scalar.indexCast v1498
  ![432, v1685.toNat]
def k0_mult52 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1042 : BitVec 32 := 256#32
  let v1697 : BitVec 32 := Scalar.muli v1502 c256_i32_1042
  v1697
def k0_off97 (i : grid0.Coords) (k0_t2 : Fin (k0_t2_loop i).trips) : Fin 3 → Nat :=
  let c4_1055 : Index := 4#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1710 : Index := Scalar.indexCast v1494
  let c0_1056 : Index := 0#32
  ![4, v1710.toNat, 0]
def k0_off98 (i : grid0.Coords) (k0_t2 : Fin (k0_t2_loop i).trips) : Fin 2 → Nat :=
  let c576_1064 : Index := 576#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1728 : Index := Scalar.indexCast v1498
  ![576, v1728.toNat]
def k0_mult53 (i : grid0.Coords) (k0_t2 : Fin (k0_t2_loop i).trips) : BitVec 32 :=
  let arg1 : BitVec 32 := BitVec.ofNat 32 (i 1).val
  let c1_i32_899 : BitVec 32 := 1#32
  let v1499 : BitVec 32 := Scalar.subi arg1 c1_i32_899
  let c0_i32_900 : BitVec 32 := 0#32
  let v1500 : BitVec 32 := Scalar.maxsi v1499 c0_i32_900
  let c0_i32_901 : BitVec 32 := 0#32
  let c2_i32_896 : BitVec 32 := 2#32
  let c0_i32_506 : BitVec 32 := 0#32
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1495 : BitVec 32 := Scalar.muli c2_i32_896 arg28
  let c2_i32_897 : BitVec 32 := 2#32
  let v1496 : BitVec 32 := Scalar.addi v1495 c2_i32_897
  let v1501 : BitVec 32 := Scalar.maxsi c0_i32_901 v1496
  let v1502 : BitVec 32 := Scalar.minsi v1500 v1501
  let c256_i32_1072 : BitVec 32 := 256#32
  let v1740 : BitVec 32 := Scalar.muli v1502 c256_i32_1072
  v1740
def k0_off99 (i : grid0.Coords) (k0_t2 : Fin (k0_t2_loop i).trips) : Fin 3 → Nat :=
  let c5_1085 : Index := 5#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1753 : Index := Scalar.indexCast v1494
  let c0_1086 : Index := 0#32
  ![5, v1753.toNat, 0]
def k0_off100 (i : grid0.Coords) (k0_t2 : Fin (k0_t2_loop i).trips) : Fin 2 → Nat :=
  let c720_1094 : Index := 720#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1771 : Index := Scalar.indexCast v1498
  ![720, v1771.toNat]
def k0_off101 (i : grid0.Coords) (k0_t2 : Fin (k0_t2_loop i).trips) : Fin 3 → Nat :=
  let c6_1105 : Index := 6#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1785 : Index := Scalar.indexCast v1494
  let c0_1106 : Index := 0#32
  ![6, v1785.toNat, 0]
def k0_off102 (i : grid0.Coords) (k0_t2 : Fin (k0_t2_loop i).trips) : Fin 2 → Nat :=
  let c864_1114 : Index := 864#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1803 : Index := Scalar.indexCast v1498
  ![864, v1803.toNat]
def k0_off103 (i : grid0.Coords) (k0_t2 : Fin (k0_t2_loop i).trips) : Fin 3 → Nat :=
  let c7_1125 : Index := 7#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let v1817 : Index := Scalar.indexCast v1494
  let c0_1126 : Index := 0#32
  ![7, v1817.toNat, 0]
def k0_off104 (i : grid0.Coords) (k0_t2 : Fin (k0_t2_loop i).trips) : Fin 2 → Nat :=
  let c1008_1134 : Index := 1008#32
  let c2_i32_894 : BitVec 32 := 2#32
  let c0_i32_506 : BitVec 32 := 0#32
  let arg1 : BitVec 32 := BitVec.ofNat 32 (i 1).val
  let c0_i32_499 : BitVec 32 := 0#32
  let v946 : BitVec 1 := Scalar.cmpi .sgt arg1 c0_i32_499
  let v947 : BitVec 32 := Scalar.extui v946
  let c0_i32_500 : BitVec 32 := 0#32
  let v948 : BitVec 1 := Scalar.cmpi .slt arg1 c0_i32_500
  let v949 : BitVec 32 := Scalar.extui v948
  let v950 : BitVec 32 := Scalar.subi v947 v949
  let c2_i32_498 : BitVec 32 := 2#32
  let c0_i32_501 : BitVec 32 := 0#32
  let v951 : BitVec 1 := Scalar.cmpi .sgt c2_i32_498 c0_i32_501
  let v952 : BitVec 32 := Scalar.extui v951
  let c0_i32_502 : BitVec 32 := 0#32
  let v953 : BitVec 1 := Scalar.cmpi .slt c2_i32_498 c0_i32_502
  let v954 : BitVec 32 := Scalar.extui v953
  let v955 : BitVec 32 := Scalar.subi v952 v954
  let v956 : BitVec 1 := Scalar.cmpi .ne v950 v955
  let v957 : BitVec 32 := Scalar.remsi arg1 c2_i32_498
  let c0_i32_503 : BitVec 32 := 0#32
  let v958 : BitVec 1 := Scalar.cmpi .ne v957 c0_i32_503
  let v959 : BitVec 1 := Scalar.andi v956 v958
  let v945 : BitVec 32 := Scalar.divsi arg1 c2_i32_498
  let c1_i32_504 : BitVec 32 := 1#32
  let v960 : BitVec 32 := Scalar.subi v945 c1_i32_504
  let v961 : BitVec 32 := Scalar.select v959 v960 v945
  let v962 : BitVec 32 := Scalar.subi v961 c0_i32_506
  let c1_i32_507 : BitVec 32 := 1#32
  let v964 : BitVec 32 := Scalar.divsi v962 c1_i32_507
  let v965 : BitVec 32 := Scalar.muli v964 c1_i32_507
  let v966 : BitVec 32 := Scalar.addi c0_i32_506 v965
  let c1_i32_509 : BitVec 32 := 1#32
  let arg28 : BitVec 32 := Scf.iv v966 c1_i32_509 k0_t2
  let v1493 : BitVec 32 := Scalar.muli c2_i32_894 arg28
  let c1_i32_895 : BitVec 32 := 1#32
  let v1494 : BitVec 32 := Scalar.addi v1493 c1_i32_895
  let c256_i32_898 : BitVec 32 := 256#32
  let v1497 : BitVec 32 := Scalar.muli v1494 c256_i32_898
  let v1498 : BitVec 32 := v1497
  let v1835 : Index := Scalar.indexCast v1498
  ![1008, v1835.toNat]
def k0_cond2 (i : grid0.Coords) : BitVec 1 :=
  let arg1 : BitVec 32 := BitVec.ofNat 32 (i 1).val
  let c2_i32_510 : BitVec 32 := 2#32
  let c0_i32_511 : BitVec 32 := 0#32
  let v967 : BitVec 1 := Scalar.cmpi .eq c2_i32_510 c0_i32_511
  let c1_i32_512 : BitVec 32 := 1#32
  let v968 : BitVec 32 := Scalar.select v967 c1_i32_512 c2_i32_510
  let v969 : BitVec 32 := Scalar.remsi arg1 v968
  let c0_i32_514 : BitVec 32 := 0#32
  let v971 : BitVec 1 := Scalar.cmpi .slt v969 c0_i32_514
  let c0_i32_515 : BitVec 32 := 0#32
  let v972 : BitVec 1 := Scalar.cmpi .slt v968 c0_i32_515
  let v973 : BitVec 1 := Scalar.xori v971 v972
  let c0_i32_513 : BitVec 32 := 0#32
  let v970 : BitVec 1 := Scalar.cmpi .ne v969 c0_i32_513
  let v974 : BitVec 1 := Scalar.andi v973 v970
  let v975 : BitVec 32 := Scalar.addi v969 v968
  let v976 : BitVec 32 := Scalar.select v974 v975 v969
  let c1_i32_516 : BitVec 32 := 1#32
  let v977 : BitVec 1 := Scalar.cmpi .eq v976 c1_i32_516
  let v978 : BitVec 32 := Scalar.extui v977
  let c0_i32_517 : BitVec 32 := 0#32
  let v979 : BitVec 1 := Scalar.cmpi .ne v978 c0_i32_517
  v979

def k0_mult54 (i : grid0.Coords) : BitVec 32 :=
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  v1141
def k0_off105 (i : grid0.Coords) : Fin 3 → Nat :=
  let c0_652 : Index := 0#32
  let arg1 : BitVec 32 := BitVec.ofNat 32 (i 1).val
  let c1_i32_647 : BitVec 32 := 1#32
  let v1140 : BitVec 32 := Scalar.subi arg1 c1_i32_647
  let v1145 : Index := Scalar.indexCast v1140
  let c0_653 : Index := 0#32
  ![0, v1145.toNat, 0]
def k0_off106 (i : grid0.Coords) : Fin 2 → Nat :=
  let c0_661 : Index := 0#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1163 : Index := Scalar.indexCast v1142
  ![0, v1163.toNat]
def k0_off107 (i : grid0.Coords) : Fin 3 → Nat :=
  let c1_672 : Index := 1#32
  let arg1 : BitVec 32 := BitVec.ofNat 32 (i 1).val
  let c1_i32_647 : BitVec 32 := 1#32
  let v1140 : BitVec 32 := Scalar.subi arg1 c1_i32_647
  let v1177 : Index := Scalar.indexCast v1140
  let c0_673 : Index := 0#32
  ![1, v1177.toNat, 0]
def k0_off108 (i : grid0.Coords) : Fin 2 → Nat :=
  let c144_681 : Index := 144#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1195 : Index := Scalar.indexCast v1142
  ![144, v1195.toNat]
def k0_off109 (i : grid0.Coords) : Fin 3 → Nat :=
  let c2_692 : Index := 2#32
  let arg1 : BitVec 32 := BitVec.ofNat 32 (i 1).val
  let c1_i32_647 : BitVec 32 := 1#32
  let v1140 : BitVec 32 := Scalar.subi arg1 c1_i32_647
  let v1209 : Index := Scalar.indexCast v1140
  let c0_693 : Index := 0#32
  ![2, v1209.toNat, 0]
def k0_off110 (i : grid0.Coords) : Fin 2 → Nat :=
  let c288_701 : Index := 288#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1227 : Index := Scalar.indexCast v1142
  ![288, v1227.toNat]
def k0_off111 (i : grid0.Coords) : Fin 3 → Nat :=
  let c3_712 : Index := 3#32
  let arg1 : BitVec 32 := BitVec.ofNat 32 (i 1).val
  let c1_i32_647 : BitVec 32 := 1#32
  let v1140 : BitVec 32 := Scalar.subi arg1 c1_i32_647
  let v1241 : Index := Scalar.indexCast v1140
  let c0_713 : Index := 0#32
  ![3, v1241.toNat, 0]
def k0_off112 (i : grid0.Coords) : Fin 2 → Nat :=
  let c432_721 : Index := 432#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1259 : Index := Scalar.indexCast v1142
  ![432, v1259.toNat]
def k0_off113 (i : grid0.Coords) : Fin 3 → Nat :=
  let c4_732 : Index := 4#32
  let arg1 : BitVec 32 := BitVec.ofNat 32 (i 1).val
  let c1_i32_647 : BitVec 32 := 1#32
  let v1140 : BitVec 32 := Scalar.subi arg1 c1_i32_647
  let v1273 : Index := Scalar.indexCast v1140
  let c0_733 : Index := 0#32
  ![4, v1273.toNat, 0]
def k0_off114 (i : grid0.Coords) : Fin 2 → Nat :=
  let c576_741 : Index := 576#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1291 : Index := Scalar.indexCast v1142
  ![576, v1291.toNat]
def k0_off115 (i : grid0.Coords) : Fin 3 → Nat :=
  let c5_752 : Index := 5#32
  let arg1 : BitVec 32 := BitVec.ofNat 32 (i 1).val
  let c1_i32_647 : BitVec 32 := 1#32
  let v1140 : BitVec 32 := Scalar.subi arg1 c1_i32_647
  let v1305 : Index := Scalar.indexCast v1140
  let c0_753 : Index := 0#32
  ![5, v1305.toNat, 0]
def k0_off116 (i : grid0.Coords) : Fin 2 → Nat :=
  let c720_761 : Index := 720#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1323 : Index := Scalar.indexCast v1142
  ![720, v1323.toNat]
def k0_off117 (i : grid0.Coords) : Fin 3 → Nat :=
  let c6_772 : Index := 6#32
  let arg1 : BitVec 32 := BitVec.ofNat 32 (i 1).val
  let c1_i32_647 : BitVec 32 := 1#32
  let v1140 : BitVec 32 := Scalar.subi arg1 c1_i32_647
  let v1337 : Index := Scalar.indexCast v1140
  let c0_773 : Index := 0#32
  ![6, v1337.toNat, 0]
def k0_off118 (i : grid0.Coords) : Fin 2 → Nat :=
  let c864_781 : Index := 864#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1355 : Index := Scalar.indexCast v1142
  ![864, v1355.toNat]
def k0_off119 (i : grid0.Coords) : Fin 3 → Nat :=
  let c7_792 : Index := 7#32
  let arg1 : BitVec 32 := BitVec.ofNat 32 (i 1).val
  let c1_i32_647 : BitVec 32 := 1#32
  let v1140 : BitVec 32 := Scalar.subi arg1 c1_i32_647
  let v1369 : Index := Scalar.indexCast v1140
  let c0_793 : Index := 0#32
  ![7, v1369.toNat, 0]
def k0_off120 (i : grid0.Coords) : Fin 2 → Nat :=
  let c1008_801 : Index := 1008#32
  let arg1 : BitVec 32 := BitVec.ofNat 32 (i 1).val
  let c1_i32_647 : BitVec 32 := 1#32
  let v1140 : BitVec 32 := Scalar.subi arg1 c1_i32_647
  let c256_i32_648 : BitVec 32 := 256#32
  let v1141 : BitVec 32 := Scalar.muli v1140 c256_i32_648
  let v1142 : BitVec 32 := v1141
  let v1387 : Index := Scalar.indexCast v1142
  ![1008, v1387.toNat]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S2x8x4096x128 : Shape := ⟨4, ![2, 8, 4096, 128]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S1x256x2048 : Shape := ⟨3, ![1, 256, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2048x2048 : Shape := ⟨2, ![2048, 2048]⟩
abbrev S8192x2048 : Shape := ⟨2, ![8192, 2048]⟩
abbrev S256x2048 : Shape := ⟨2, ![256, 2048]⟩
abbrev S512x1024 : Shape := ⟨2, ![512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x8x4096x128, .f32⟩
  | .hbm, ⟨1, _⟩ => ⟨S2x8x4096x128, .f32⟩
  | .hbm, ⟨2, _⟩ => ⟨S2x8x4096x128, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S1x2048x2048, .f32⟩
  | .hbm, ⟨9, _⟩ => ⟨S1x256x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S2048x2048, .f32⟩
  | .hbm, ⟨18, _⟩ => ⟨S2048x2048, .bf16⟩
  | .hbm, ⟨19, _⟩ => ⟨S8x2048x1024, .bf16⟩
  | .hbm, ⟨20, _⟩ => ⟨S8192x2048, .f32⟩
  | .hbm, ⟨21, _⟩ => ⟨S8192x2048, .bf16⟩
  | .hbm, ⟨22, _⟩ => ⟨S2048x2048, .f32⟩
  | .hbm, ⟨23, _⟩ => ⟨S2048x2048, .bf16⟩
  | .hbm, ⟨24, _⟩ => ⟨S256x2048, .f32⟩
  | .hbm, ⟨25, _⟩ => ⟨S512x1024, .f32⟩
  | .hbm, ⟨26, _⟩ => ⟨S512x1024, .bf16⟩
  | _, _ => ⟨S2x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x2048 : Shape := ⟨2, ![8192, 2048]⟩
abbrev S2048 : Shape := ⟨1, ![2048]⟩
abbrev S512x2048 : Shape := ⟨2, ![512, 2048]⟩
abbrev S1x2048x1024 : Shape := ⟨3, ![1, 2048, 1024]⟩
abbrev S1024x2048 : Shape := ⟨2, ![1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 14
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S2048x8x1024, .f32⟩
  | .hbm, ⟨6, _⟩ => ⟨S8x2048x1024, .f32⟩
  | .hbm, ⟨7, _⟩ => ⟨S8x2048x1024, .bf16⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .bf16⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let v1 : BitVec 32 := Scalar.addi arg0 c1_i32
  let v2 : BitVec 32 := Scalar.select v0 v1 arg0
  let c15_i32 : BitVec 32 := 15#32
  let v3 : BitVec 32 := Scalar.minsi v2 c15_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2x4096x2048 : Shape := ⟨3, ![2, 4096, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩
abbrev S2x4096x8192 : Shape := ⟨3, ![2, 4096, 8192]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x8192, .f32⟩
  | .hbm, ⟨22, _⟩ => ⟨S2x4096x8192, .f32⟩
  | .hbm, ⟨23, _⟩ => ⟨S_, .f32⟩
  | .hbm, ⟨24, _⟩ => ⟨S2x4096x8192, .f32⟩
  | .hbm, ⟨25, _⟩ => ⟨S2x4096x8192, .f32⟩
  | .hbm, ⟨26, _⟩ => ⟨S2x4096x8192, .f32⟩
  | .hbm, ⟨27, _⟩ => ⟨S8192x2048, .f32⟩
  | .hbm, ⟨28, _⟩ => ⟨S2x4096x2048, .f32⟩
  | .hbm, ⟨29, _⟩ => ⟨S2x4096x2048, .f32⟩
  | .hbm, ⟨30, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2x4096x256 : Shape := ⟨4, ![1, 2, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S8192x2048 : Shape := ⟨2, ![8192, 2048]⟩
abbrev S2048 : Shape := ⟨1, ![2048]⟩
abbrev S2x4096x256 : Shape := ⟨3, ![2, 4096, 256]⟩
abbrev S8192x256 : Shape := ⟨2, ![8192, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 15
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2x4096x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2x4096x256, .f32⟩
  | .hbm, ⟨9, _⟩ => ⟨S8192x256, .f32⟩
  | .hbm, ⟨10, _⟩ => ⟨S2048x2048, .f32⟩
  | .hbm, ⟨11, _⟩ => ⟨S2048x2048, .bf16⟩
  | .hbm, ⟨12, _⟩ => ⟨S256x2048, .f32⟩
  | .hbm, ⟨13, _⟩ => ⟨S256x2048, .bf16⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x4096x2048 : Shape := ⟨3, ![2, 4096, 2048]⟩
abbrev S1x2x4096x256 : Shape := ⟨4, ![1, 2, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x2048 : Shape := ⟨2, ![2048, 2048]⟩
abbrev S2x4096x256 : Shape := ⟨3, ![2, 4096, 256]⟩
abbrev S256x2048 : Shape := ⟨2, ![256, 2048]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2x4096x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S2x4096x256, .f32⟩
  | .hbm, ⟨33, _⟩ => ⟨S256x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x2048 : Shape := ⟨3, ![2, 4096, 2048]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S_ : Shape := ⟨0, ![]⟩
abbrev S2x4096x3072 : Shape := ⟨3, ![2, 4096, 3072]⟩
abbrev S2x4096x9216 : Shape := ⟨3, ![2, 4096, 9216]⟩
abbrev S8192x1024 : Shape := ⟨2, ![8192, 1024]⟩
abbrev S8192x9216 : Shape := ⟨2, ![8192, 9216]⟩
abbrev S8192x2048 : Shape := ⟨2, ![8192, 2048]⟩
abbrev S3x1024 : Shape := ⟨2, ![3, 1024]⟩
abbrev S1024x2048 : Shape := ⟨2, ![1024, 2048]⟩
abbrev S2048x2048 : Shape := ⟨2, ![2048, 2048]⟩
abbrev S512x1024 : Shape := ⟨2, ![512, 1024]⟩
abbrev S8x1024 : Shape := ⟨2, ![8, 1024]⟩
abbrev S512x2048 : Shape := ⟨2, ![512, 2048]⟩
abbrev S520x1024 : Shape := ⟨2, ![520, 1024]⟩
abbrev S1x1024 : Shape := ⟨2, ![1, 1024]⟩
abbrev S512x512 : Shape := ⟨2, ![512, 512]⟩
abbrev S1024x512 : Shape := ⟨2, ![1024, 512]⟩
abbrev S2048x512 : Shape := ⟨2, ![2048, 512]⟩

abbrev nBuf : Space → Nat
  | .hbm => 26
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S2x4096x2048, .f32⟩
  | .hbm, ⟨3, _⟩ => ⟨S2x4096x1024, .f32⟩
  | .hbm, ⟨4, _⟩ => ⟨S2x4096x1024, .f32⟩
  | .hbm, ⟨5, _⟩ => ⟨S2x4096x2048, .f32⟩
  | .hbm, ⟨6, _⟩ => ⟨S1x3x1024, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S_, .f32⟩
  | .hbm, ⟨11, _⟩ => ⟨S2x4096x3072, .f32⟩
  | .hbm, ⟨12, _⟩ => ⟨S2x4096x9216, .f32⟩
  | .hbm, ⟨13, _⟩ => ⟨S8192x1024, .f32⟩
  | .hbm, ⟨14, _⟩ => ⟨S8192x1024, .bf16⟩
  | .hbm, ⟨15, _⟩ => ⟨S8192x9216, .f32⟩
  | .hbm, ⟨16, _⟩ => ⟨S8192x9216, .bf16⟩
  | .hbm, ⟨17, _⟩ => ⟨S8192x2048, .f32⟩
  | .hbm, ⟨18, _⟩ => ⟨S3x1024, .f32⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S2048x2048, .f32⟩
  | .hbm, ⟨24, _⟩ => ⟨S2048x2048, .bf16⟩
  | .hbm, ⟨25, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024, .bf16⟩
  | .local _ .vmem, ⟨7, _⟩ => ⟨S8x1024, .bf16⟩
  | .local _ .vmem, ⟨8, _⟩ => ⟨S3x1024, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S512x2048, .f32⟩
  | .local _ .vmem, ⟨19, _⟩ => ⟨S512x2048, .f32⟩
  | .local _ .vmem, ⟨20, _⟩ => ⟨S520x1024, .f32⟩
  | .local _ .vmem, ⟨21, _⟩ => ⟨S512x1024, .bf16⟩
  | .local _ .vmem, ⟨22, _⟩ => ⟨S512x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S2x4096x1024 : Shape := ⟨3, ![2, 4096, 1024]⟩
abbrev S2x4096x2048 : Shape := ⟨3, ![2, 4096, 2048]⟩
abbrev S1x3x1024 : Shape := ⟨3, ![1, 3, 1024]⟩
abbrev S1x1024x2048 : Shape := ⟨3, ![1, 1024, 2048]⟩
abbrev S1x2048x2048 : Shape := ⟨3, ![1, 2048, 2048]⟩
abbrev S3x1024 : Shape := ⟨2, ![3, 1024]⟩
abbrev S_ : Shape := ⟨0, ![]⟩
abbrev S2x4097x1024 : Shape := ⟨3, ![2, 4097, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S1024x2048 : Shape := ⟨2, ![1024, 2048]⟩
abbrev S2048x2048 : Shape := ⟨2, ![2048, 2048]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S2x4096x2048, .f32⟩
  | .hbm, ⟨3, _⟩ => ⟨S2x4096x1024, .f32⟩
  | .hbm, ⟨4, _⟩ => ⟨S2x4096x1024, .f32⟩
  | .hbm, ⟨5, _⟩ => ⟨S2x4096x2048, .f32⟩
  | .hbm, ⟨6, _⟩ => ⟨S1x3x1024, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S3x1024, .f32⟩
  | .hbm, ⟨11, _⟩ => ⟨S_, .i32⟩
  | .hbm, ⟨12, _⟩ => ⟨S_, .f32⟩
  | .hbm, ⟨13, _⟩ => ⟨S2x4097x1024, .f32⟩
  | .hbm, ⟨14, _⟩ => ⟨S2x4096x1024, .f32⟩
  | .hbm, ⟨15, _⟩ => ⟨S_, .i32⟩
  | .hbm, ⟨16, _⟩ => ⟨S_, .f32⟩
  | .hbm, ⟨17, _⟩ => ⟨S2x4098x1024, .f32⟩
  | .hbm, ⟨18, _⟩ => ⟨S2x4096x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S1024x2048, .f32⟩
  | .hbm, ⟨37, _⟩ => ⟨S2x4096x2048, .f32⟩
  | .hbm, ⟨38, _⟩ => ⟨S2x4096x1024, .f32⟩
  | .hbm, ⟨39, _⟩ => ⟨S1024x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2048x2048, .f32⟩
  | .hbm, ⟨45, _⟩ => ⟨S2x4096x2048, .f32⟩
  | .hbm, ⟨46, _⟩ => ⟨S2x4096x2048, .f32⟩
  | .hbm, ⟨47, _⟩ => ⟨S8192x2048, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel5.lean ====
abbrev S2x4096x2048 : Shape := ⟨3, ![2, 4096, 2048]⟩
abbrev S1x2048 : Shape := ⟨2, ![1, 2048]⟩
abbrev S1x2048x10240 : Shape := ⟨3, ![1, 2048, 10240]⟩
abbrev S1x128 : Shape := ⟨2, ![1, 128]⟩
abbrev S8192x2048 : Shape := ⟨2, ![8192, 2048]⟩
abbrev S2048 : Shape := ⟨1, ![2048]⟩
abbrev S128 : Shape := ⟨1, ![128]⟩
abbrev S2048x10240 : Shape := ⟨2, ![2048, 10240]⟩
abbrev S8192x9216 : Shape := ⟨2, ![8192, 9216]⟩
abbrev S1024x512 : Shape := ⟨2, ![1024, 512]⟩
abbrev S2048x1024 : Shape := ⟨2, ![2048, 1024]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩
abbrev S1x512 : Shape := ⟨2, ![1, 512]⟩
abbrev S2048x768 : Shape := ⟨2, ![2048, 768]⟩
abbrev S1024x768 : Shape := ⟨2, ![1024, 768]⟩
abbrev S1024x128 : Shape := ⟨2, ![1024, 128]⟩
abbrev S2048x256 : Shape := ⟨2, ![2048, 256]⟩
abbrev S1024x256 : Shape := ⟨2, ![1024, 256]⟩

abbrev nBuf : Space → Nat
  | .hbm => 14
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x10240, .f32⟩
  | .hbm, ⟨3, _⟩ => ⟨S1x128, .f32⟩
  | .hbm, ⟨4, _⟩ => ⟨S1x128, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S2048x10240, .f32⟩
  | .hbm, ⟨13, _⟩ => ⟨S8192x9216, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x2048, .f32⟩
  | .local _ .vmem, ⟨9, _⟩ => ⟨S1x128, .f32⟩
  | .local _ .vmem, ⟨10, _⟩ => ⟨S1x128, .f32⟩
  | .local _ .vmem, ⟨11, _⟩ => ⟨S2048x1024, .f32⟩
  | .local _ .vmem, ⟨12, _⟩ => ⟨S2048x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let c3_i32 : BitVec 32 := 3#32
  let v10 : BitVec 1 := Scalar.cmpi .eq arg1 c3_i32
  let v11 : BitVec 1 := Scalar.ori v9 v10
  let v12 : BitVec 32 := Scalar.extui v11
  let c0_i32_4 : BitVec 32 := 0#32
  let v13 : BitVec 1 := Scalar.cmpi .ne v12 c0_i32_4
  v13

def k0_cond6 (i : grid0.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_6 : BitVec 32 := 0#32
  let v19 : BitVec 1 := Scalar.cmpi .ne v18 c0_i32_6
  v19

def k0_cond7 (i : grid0.Coords) : BitVec 1 :=
  let arg1 : BitVec 32 := BitVec.ofNat 32 (i 1).val
  let c6_i32 : BitVec 32 := 6#32
  let v20 : BitVec 1 := Scalar.cmpi .sge arg1 c6_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sge arg1 c7_i32
  let c1_i32 : BitVec 32 := 1#32
  let v1 : BitVec 32 := Scalar.addi arg0 c1_i32
  let v2 : BitVec 32 := Scalar.select v0 v1 arg0
  let c7_i32_0 : BitVec 32 := 7#32
  let v3 : BitVec 32 := Scalar.minsi v2 c7_i32_0
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let v1 : BitVec 32 := Scalar.addi arg0 c1_i32
  let v2 : BitVec 32 := Scalar.select v0 v1 arg0
  let c7_i32 : BitVec 32 := 7#32
  let v3 : BitVec 32 := Scalar.minsi v2 c7_i32
  let c1_i32_0 : BitVec 32 := 1#32
  let c0_i32 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let c1_i32 : BitVec 32 := 1#32
  let v1 : BitVec 32 := Scalar.addi arg0 c1_i32
  let v2 : BitVec 32 := Scalar.select v0 v1 arg0
  let c7_i32 : BitVec 32 := 7#32
  let v3 : BitVec 32 := Scalar.minsi v2 c7_i32
  let c2_i32 : BitVec 32 := 2#32
  let c0_i32 : BitVec 32 := 0#32
  ![v3.toNat, c2_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let c1_i32 : BitVec 32 := 1#32
  let v1 : BitVec 32 := Scalar.addi arg0 c1_i32
  let v2 : BitVec 32 := Scalar.select v0 v1 arg0
  let c7_i32 : BitVec 32 := 7#32
  let v3 : BitVec 32 := Scalar.minsi v2 c7_i32
  let c3_i32 : BitVec 32 := 3#32
  let c0_i32 : BitVec 32 := 0#32
  ![v3.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg1 c1_i32
  let v2 : BitVec 32 := Scalar.select v0 arg1 v1
  let c4_i32_0 : BitVec 32 := 4#32
  let v3 : BitVec 32 := Scalar.addi c4_i32_0 v2
  let c6_i32 : BitVec 32 := 6#32
  let v4 : BitVec 1 := Scalar.cmpi .slt arg1 c6_i32
  let c6_i32_1 : BitVec 32 := 6#32
  let v5 : BitVec 32 := Scalar.subi arg1 c6_i32_1
  let v6 : BitVec 32 := Scalar.select v4 v3 v5
  let c0_i32 : BitVec 32 := 0#32
  ![arg0.toNat, v6.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x4096x2048 : Shape := ⟨3, ![2, 4096, 2048]⟩
abbrev S1x2048 : Shape := ⟨2, ![1, 2048]⟩
abbrev S1x2048x10240 : Shape := ⟨3, ![1, 2048, 10240]⟩
abbrev S1x128 : Shape := ⟨2, ![1, 128]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10240 : Shape := ⟨2, ![2048, 10240]⟩
abbrev S2x4096x10240 : Shape := ⟨3, ![2, 4096, 10240]⟩
abbrev S8192x10240 : Shape := ⟨2, ![8192, 10240]⟩
abbrev S8192x1024 : Shape := ⟨2, ![8192, 1024]⟩
abbrev S8192x4096 : Shape := ⟨2, ![8192, 4096]⟩
abbrev S8192x8x128 : Shape := ⟨3, ![8192, 8, 128]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩
abbrev S8192x9216 : Shape := ⟨2, ![8192, 9216]⟩

abbrev nBuf : Space → Nat
  | .hbm => 84
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x10240, .f32⟩
  | .hbm, ⟨3, _⟩ => ⟨S1x128, .f32⟩
  | .hbm, ⟨4, _⟩ => ⟨S1x128, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x10240, .f32⟩
  | .hbm, ⟨23, _⟩ => ⟨S2x4096x10240, .f32⟩
  | .hbm, ⟨24, _⟩ => ⟨S8192x10240, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S8192x8x128, .f32⟩
  | .hbm, ⟨33, _⟩ => ⟨S128, .f32⟩
  | .hbm, ⟨34, _⟩ => ⟨S8192x8x128, .f32⟩
  | .hbm, ⟨35, _⟩ => ⟨S_, .f32⟩
  | .hbm, ⟨36, _⟩ => ⟨S8192x8, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S8192x8x1, .f32⟩
  | .hbm, ⟨45, _⟩ => ⟨S8192x8x128, .f32⟩
  | .hbm, ⟨46, _⟩ => ⟨S8192x8x128, .f32⟩
  | .hbm, ⟨47, _⟩ => ⟨S1x1x128, .f32⟩
  | .hbm, ⟨48, _⟩ => ⟨S8192x8x128, .f32⟩
  | .hbm, ⟨49, _⟩ => ⟨S8192x8x128, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x8x128, .f32⟩
  | .hbm, ⟨55, _⟩ => ⟨S128, .f32⟩
  | .hbm, ⟨56, _⟩ => ⟨S8192x8x128, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S_, .f32⟩
  | .hbm, ⟨61, _⟩ => ⟨S8192x8x1, .f32⟩
  | .hbm, ⟨62, _⟩ => ⟨S8192x8x1, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S8192x8x1, .f32⟩
  | .hbm, ⟨67, _⟩ => ⟨S8192x8x128, .f32⟩
  | .hbm, ⟨68, _⟩ => ⟨S8192x8x128, .f32⟩
  | .hbm, ⟨69, _⟩ => ⟨S1x1x128, .f32⟩
  | .hbm, ⟨70, _⟩ => ⟨S8192x8x128, .f32⟩
  | .hbm, ⟨71, _⟩ => ⟨S8192x8x128, .f32⟩
  | .hbm, ⟨72, _⟩ => ⟨S8192x1024, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S8192x1024, .f32⟩
  | .hbm, ⟨82, _⟩ => ⟨S8192x9216, .f32⟩
  | .hbm, ⟨83, _⟩ => ⟨S8192x9216, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Scalar.lean ====
/- Facts about single extended reals: the literals the programs use, the logistic function through the hyperbolic
   tangent, and the mean as a division or as a product with a reciprocal. -/
module

public import Idealize.ShloMosaic.Lib.Pipeline.ValueKit

@[expose] public section

set_option maxRecDepth 16384

noncomputable section

namespace Cert.Scalar
open Idealize.ShloMosaic

/-- The word of one half. -/
theorem lit_half : Ideal.ofBits .f32 0x3F000000#32 = ((1 / 2 : ℝ) : EReal) := by
  simp [Ideal.ofBits, Ideal.ieee, -EReal.coe_mul]; norm_num

/-- The word of 2048. -/
theorem lit_2048 : Ideal.ofBits .f32 0x45000000#32 = ((2048 : ℝ) : EReal) := by
  simp [Ideal.ofBits, Ideal.ieee, -EReal.coe_mul]; norm_num

/-- The word of 1/2048. -/
theorem lit_inv2048 : Ideal.ofBits .f32 0x3A000000#32 = ((1 / 2048 : ℝ) : EReal) := by
  simp [Ideal.ofBits, Ideal.ieee, -EReal.coe_mul]; norm_num

/-- The logistic function as the reference writes it. -/
def sigmoid (x : EReal) : EReal := Ideal.div 1 (1 + Ideal.exp (-x))

/-- The logistic function is half the hyperbolic tangent of half the argument, plus one half. -/
theorem half_tanh (x : EReal) :
    Ideal.ofBits .f32 0x3F000000#32 * Ideal.tanh (Ideal.ofBits .f32 0x3F000000#32 * x) + Ideal.ofBits .f32 0x3F000000#32 = sigmoid x := by
  rw [lit_half, sigmoid]
  induction x using EReal.rec with
  | bot =>
    rw [EReal.coe_mul_bot_of_pos (by norm_num), Ideal.tanh_bot, EReal.neg_bot, Ideal.exp_top]
    rw [show (1 : EReal) + ⊤ = ⊤ from rfl, Ideal.div, if_neg (by simp), EReal.inv_top, mul_zero,
      show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero,
      show (1 : EReal) = ((1 : ℝ) : EReal) from rfl, ← EReal.coe_mul, ← EReal.coe_add, Ideal.div,
      if_neg (by norm_num), ← EReal.coe_inv, ← EReal.coe_mul]
    norm_num
  | coe r =>
    have hp : 0 < 1 + Real.exp (-r) := by positivity
    rw [← EReal.coe_mul, Ideal.tanh_coe, ← EReal.coe_mul, ← EReal.coe_add, ← EReal.coe_neg, Ideal.exp_coe,
      show (1 : EReal) = ((1 : ℝ) : EReal) from rfl, ← EReal.coe_add, Ideal.div,
      if_neg (by exact_mod_cast hp.ne'), ← EReal.coe_inv, ← EReal.coe_mul]
    congr 1
    have h1 : Real.exp (-r) = Real.exp (-(1 / 2 * r)) * Real.exp (-(1 / 2 * r)) := by
      rw [← Real.exp_add]; ring_nf
    have h2 : Real.exp (-(1 / 2 * r)) = (Real.exp (1 / 2 * r))⁻¹ := Real.exp_neg _
    have hE := Real.exp_pos (1 / 2 * r)
    rw [Real.tanh_eq_sinh_div_cosh, Real.sinh_eq, Real.cosh_eq, h1, h2]
    field_simp
    ring

/-- Dividing by 2048 is multiplying by its reciprocal. -/
theorem div_2048 (x : EReal) :
    Ideal.div x (Ideal.ofBits .f32 0x45000000#32) = x * Ideal.ofBits .f32 0x3A000000#32 := by
  rw [lit_2048, lit_inv2048, Ideal.div, if_neg (by norm_num), ← EReal.coe_inv]
  norm_num

end Cert.Scalar
-- ==== Proof.Rms.lean ====
/- Root-mean-square normalisation of one row of 2048 numbers, as the references write it. -/
module

public import proofs.«01_k».proof.Proof.Scalar

@[expose] public section

set_option maxRecDepth 16384

noncomputable section

namespace Cert.Rms
open Idealize.ShloMosaic

/-- Entry `k` of the row `x`, divided by the root of the mean square (plus the small constant), times the gain. -/
def rms (x g : Fin 2048 → EReal) (k : Fin 2048) : EReal :=
  x k * Ideal.rsqrt (Ideal.div (∑ l, x l * x l) (Ideal.ofBits .f32 0x45000000#32) + Ideal.ofBits .f32 0x358637BD#32) * g k

end Cert.Rms
-- ==== Proof.Mlp.lean ====
/- The squared-ReLU MLP: what one grid point adds to its block of 512 rows, and what it carries to the next point. -/
module

public import proofs.«01_k».proof.Proof.Gen.Kernel2Ideal.Frame
public import proofs.«01_k».proof.Proof.Rms
public import Idealize.ShloMosaic.Lib.Pipeline.ValueKit
public import Idealize.ShloMosaic.Lib.Pipeline.ReadBack

@[expose] public section

set_option maxRecDepth 16384

noncomputable section

namespace Cert.Kernel2Ideal.Value
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

/-- One hidden unit from a normalised row: the rectified product with its column of weights. -/
def hid (h : Fin 2048 → EReal) (w : Fin 2048 → EReal) : EReal := max (∑ k, h k * w k) 0

/-- What one hidden unit adds to an entry: its square times its weight there. -/
def unit (h w : Fin 2048 → EReal) (d : EReal) : EReal := hid h w * hid h w * d

/-- The normalised rows of a block, as the first point of a run stores them. -/
theorem norm_eq (x : Vec Ideal S512x2048 .f32) (g : Vec Ideal S1x2048 .f32) (a : Fin 512) (k : Fin 2048) :
    k0_pay2 (F := Ideal) x g (ix2 a k) = Rms.rms (fun k => x (ix2 a k)) (fun k => g (ix2 0 k)) k := by
  pointwise [k0_pay2, k0_pay1, Rms.rms]
  simp only [← Scalar.div_2048]

/-- What a point stores in the output block: what it finds there plus its 1024 hidden units' contribution. -/
theorem step_eq (h : Vec Ideal S512x2048 .bf16) (wu : Vec Ideal S1x2048x1024 .bf16) (acc : Vec Ideal S512x2048 .f32)
    (wd : Vec Ideal S1024x2048 .bf16) (a : Fin 512) (n : Fin 2048) :
    k0_pay3 (F := Ideal) h wu acc wd (ix2 a n) = acc (ix2 a n) + ∑ j : Fin 1024,
      unit (fun k => h (ix2 a k)) (fun k => wu (ix3 0 k j)) (wd (ix2 j n)) := by
  pointwise [k0_pay3, unit, hid]

/-- The copy of the residual that the first point of a run starts from. -/
theorem copy_eq (x : Vec Ideal S512x2048 .f32) (y : S512x2048.Idx) : k0_pay1 (F := Ideal) x y = x y := by
  pointwise [k0_pay1]

/-- The first point of a run: the output block. -/
theorem first_out (c : Dev nD) (t : Fin cfg0.N) (h : t.val % 8 = 0) :
    (outsAt0 m c t.val t.isLt).1
      = k0_pay3 (k0_pay2 (iblk m c 0 t) (iblk m c 1 t)) (iblk m c 2 t) (k0_pay1 (iblk m c 0 t)) (iblk m c 3 t) := by
  rw [outsAt0_A m c t h]
  frame_open
  simp (disch := decide) only [↓ View.readCov_skip, ↓ View.readCov_cons_toLoadRect, ↓ View.readCov_fill]
  frame_out

/-- The first point of a run: the carried rows. -/
theorem first_carry (c : Dev nD) (t : Fin cfg0.N) (h : t.val % 8 = 0) :
    (outsAt0 m c t.val t.isLt).2 = k0_pay2 (iblk m c 0 t) (iblk m c 1 t) := by
  rw [outsAt0_A m c t h]
  frame_open
  frame_out

/-- A later point of a run: the output block. -/
theorem next_out (c : Dev nD) (t : Fin cfg0.N) (h : ¬ t.val % 8 = 0) :
    (outsAt0 m c t.val t.isLt).1
      = k0_pay3 (outsAt0 m c (t.val - 1) (Nat.lt_of_le_of_lt (Nat.sub_le _ _) t.isLt)).2 (iblk m c 2 t)
        (outsAt0 m c (t.val - 1) (Nat.lt_of_le_of_lt (Nat.sub_le _ _) t.isLt)).1 (iblk m c 3 t) := by
  rw [outsAt0_B m c t h]
  frame_open
  frame_out
  simp only [read_unread_whole]

/-- A later point of a run: the carried rows stay. -/
theorem next_carry (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  dsimp only
  unfold sout0_B_0
  frame_out

end Cert.Kernel2Ideal.Value
-- ==== Proof.MlpArray.lean ====
/- The squared-ReLU MLP: what the kernel's result array holds and what the reference computes, both as one function of
   the arguments. -/
module

public import proofs.«01_k».proof.Proof.Mlp
public import proofs.«01_k».proof.Proof.Gen.Reference2Ideal.Run

@[expose] public section

set_option maxRecDepth 16384

noncomputable section

namespace Cert.Kernel2Ideal.Value
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

/-- Row `R` of the batch's 8192 rows. -/
def row (r : Vec Ideal S2x4096x2048 .f32) (R : Fin 8192) (k : Fin 2048) : EReal :=
  r (ix3 ⟨R.val / 4096, by omega⟩ ⟨R.val % 4096, Nat.mod_lt _ (by norm_num)⟩ k)

/-- What hidden unit `f` contributes to entry `n` of row `R`. -/
def unitTerm (r : Vec Ideal S2x4096x2048 .f32) (g : Vec Ideal S1x2048 .f32) (wu : Vec Ideal S1x2048x8192 .f32)
    (wd : Vec Ideal S1x8192x2048 .f32) (R : Fin 8192) (n : Fin 2048) (f : Fin 8192) : EReal :=
  unit (Rms.rms (row r R) (fun k => g (ix2 0 k))) (fun k => wu (ix3 0 k f)) (wd (ix3 0 f n))

/-- The MLP over the whole arrays, its rows numbered through the batch. -/
def mlpArr (r : Vec Ideal S2x4096x2048 .f32) (g : Vec Ideal S1x2048 .f32) (wu : Vec Ideal S1x2048x8192 .f32)
    (wd : Vec Ideal S1x8192x2048 .f32) : Vec Ideal S8192x2048 .f32 := fun i =>
  row r (i 0) (i 1) + ∑ f, unitTerm r g wu wd (i 0) (i 1) f

/-- The arguments, at their plain types. -/
abbrev argR (c : Dev nD) : Vec Ideal S2x4096x2048 .f32 := m ((c : Thread nD τ).loc main_arg0)
abbrev argG (c : Dev nD) : Vec Ideal S1x2048 .f32 := m ((c : Thread nD τ).loc main_arg1)
abbrev argU (c : Dev nD) : Vec Ideal S1x2048x8192 .f32 := m ((c : Thread nD τ).loc main_arg2)
abbrev argD (c : Dev nD) : Vec Ideal S1x8192x2048 .f32 := m ((c : Thread nD τ).loc main_arg3)

/-- Where the windows' blocks lie at each of the 128 points. -/
theorem idx : ∀ t : Fin cfg0.N, win0_0.index t = ![t.val / 8, 0] ∧ win0_1.index t = ![0, 0] ∧ win0_2.index t = ![t.val % 8, 0, 0]
    ∧ win0_3.index t = ![t.val % 8, 0] ∧ win0_4.index t = ![t.val / 8, 0] :=
  (by decide +kernel : ∀ t : Fin grid0.N, _)

/-- There are 128 points. -/
theorem t_lt (t : Fin cfg0.N) : t.val < 128 := lt_of_lt_of_eq t.isLt N_0

/-- The array's row of row `a` of the block of run `q`. -/
def rowAt (q : ℕ) (hq : q < 16) (a : Fin 512) : Fin 8192 := ⟨q * 512 + a.val, by omega⟩

/-- What a point stages: rows of the residual. -/
theorem read0 (c : Dev nD) (t : Fin cfg0.N) (a : Fin 512) (k : Fin 2048) :
    (show Vec Ideal S512x2048 .f32 from iblk m c 0 t) (ix2 a k)
      = row (argR m c) (rowAt (t.val / 8) (by have := t_lt t; omega) a) k := by
  simp only [row, rowAt]
  blk_point [iblk, V, idx t]

/-- What a point stages: the gain. -/
theorem read1 (c : Dev nD) (t : Fin cfg0.N) (k : Fin 2048) :
    (show Vec Ideal S1x2048 .f32 from iblk m c 1 t) (ix2 0 k) = argG m c (ix2 0 k) := by
  blk_point [iblk, V, idx t]

/-- What a point stages: its 1024 columns of the first weights. -/
theorem read2 (c : Dev nD) (t : Fin cfg0.N) (k : Fin 2048) (j : Fin 1024) :
    (show Vec Ideal S1x2048x1024 .bf16 from iblk m c 2 t) (ix3 0 k j)
      = argU m c (ix3 0 k ⟨(t.val % 8 * 1024 + j.val) % 8192, Nat.mod_lt _ (by norm_num)⟩) := by
  blk_point [iblk, V, idx t]

/-- What a point stages: its 1024 rows of the second weights. -/
theorem read3 (c : Dev nD) (t : Fin cfg0.N) (j : Fin 1024) (n : Fin 2048) :
    (show Vec Ideal S1024x2048 .bf16 from iblk m c 3 t) (ix2 j n)
      = argD m c (ix3 0 ⟨(t.val % 8 * 1024 + j.val) % 8192, Nat.mod_lt _ (by norm_num)⟩ n) := by
  blk_point [iblk, V, idx t]

/-- Where entry `y` of point `t`'s block lies in the result array. -/
theorem place (t : Fin cfg0.N) (y : S512x2048.Idx) : (((cfg0.win 4).blk t).view.emb y : S8192x2048.Idx)
    = ix2 (rowAt (t.val / 8) (by have := t_lt t; omega) (y 0)) (y 1) := by
  simp only [rowAt]
  blk_ext [idx t]

/-- A point's partial sum: its 1024 hidden units. -/
def part (r : Vec Ideal S2x4096x2048 .f32) (g : Vec Ideal S1x2048 .f32) (wu : Vec Ideal S1x2048x8192 .f32)
    (wd : Vec Ideal S1x8192x2048 .f32) (R : Fin 8192) (n : Fin 2048) (s : ℕ) : EReal :=
  ∑ j : Fin 1024, unitTerm r g wu wd R n ⟨(s * 1024 + j.val) % 8192, Nat.mod_lt _ (by norm_num)⟩

/-- A point's step over the arrays: from rows `h` equal to the normalised rows of its run, the entry it finds plus its part. -/
theorem step_arr (c : Dev nD) (t : Fin cfg0.N) (h : Vec Ideal S512x2048 .bf16) (acc : Vec Ideal S512x2048 .f32)
    (a : Fin 512) (n : Fin 2048)
    (hh : ∀ k, h (ix2 a k) = Rms.rms (row (argR m c) (rowAt (t.val / 8) (by have := t_lt t; omega) a)) (fun k => argG m c (ix2 0 k)) k) :
    k0_pay3 (F := Ideal) h (iblk m c 2 t) acc (iblk m c 3 t) (ix2 a n) = acc (ix2 a n)
      + part (argR m c) (argG m c) (argU m c) (argD m c) (rowAt (t.val / 8) (by have := t_lt t; omega) a) n (t.val % 8) := by
  rw [step_eq]
  refine congrArg (acc (ix2 a n) + ·) (Finset.sum_congr rfl fun j _ => ?_)
  have e : (fun k => h (ix2 a k)) = Rms.rms (row (argR m c) (rowAt (t.val / 8) (by have := t_lt t; omega) a)) (fun k => argG m c (ix2 0 k)) :=
    funext hh
  have u : (fun k => (show Vec Ideal S1x2048x1024 .bf16 from iblk m c 2 t) (ix3 0 k j)) = _ := funext fun k => read2 m c t k j
  exact congr (congr (congrArg unit e) u) (read3 m c t j n)

/-- After any point of a run the carried rows are the run's normalised rows, and the output block holds the residual plus
    the parts of the points so far. -/
theorem state (c : Dev nD) : ∀ (n : ℕ) (hn : n < cfg0.N) (a : Fin 512),
    (∀ k, (show Vec Ideal S512x2048 .bf16 from (outsAt0 m c n hn).2) (ix2 a k)
      = Rms.rms (row (argR m c) (rowAt (n / 8) (by have := t_lt ⟨n, hn⟩; dsimp only at this; omega) a)) (fun k => argG m c (ix2 0 k)) k)
    ∧ ∀ k, (show Vec Ideal S512x2048 .f32 from (outsAt0 m c n hn).1) (ix2 a k)
      = row (argR m c) (rowAt (n / 8) (by have := t_lt ⟨n, hn⟩; dsimp only at this; omega) a) k
        + ∑ s ∈ Finset.range (n % 8 + 1), part (argR m c) (argG m c) (argU m c) (argD m c)
            (rowAt (n / 8) (by have := t_lt ⟨n, hn⟩; dsimp only at this; omega) a) k s := by
  have start : ∀ (t : Fin cfg0.N) (a : Fin 512) (k : Fin 2048), k0_pay2 (F := Ideal) (iblk m c 0 t) (iblk m c 1 t) (ix2 a k)
      = Rms.rms (row (argR m c) (rowAt (t.val / 8) (by have := t_lt t; omega) a)) (fun k => argG m c (ix2 0 k)) k := by
    intro t a k
    rw [norm_eq]
    exact congr_arg₂ (Rms.rms · · k) (funext fun k => read0 m c t a k) (funext fun k => read1 m c t k)
  intro n
  induction n with
  | zero =>
    intro hn a
    refine ⟨fun k => ?_, fun k => ?_⟩
    · rw [first_carry m c ⟨0, hn⟩ rfl]
      exact start ⟨0, hn⟩ a k
    · rw [first_out m c ⟨0, hn⟩ rfl]
      refine (step_arr m c ⟨0, hn⟩ _ _ a k fun k => start ⟨0, hn⟩ a k).trans ?_
      rw [copy_eq]
      refine (congrArg (· + _) (read0 m c ⟨0, hn⟩ a k)).trans ?_
      simp
  | succ n ih =>
    intro hn a
    by_cases h : (n + 1) % 8 = 0
    · refine ⟨fun k => ?_, fun k => ?_⟩
      · rw [first_carry m c ⟨n + 1, hn⟩ h]
        exact start ⟨n + 1, hn⟩ a k
      · rw [first_out m c ⟨n + 1, hn⟩ h]
        refine (step_arr m c ⟨n + 1, hn⟩ _ _ a k fun k => start ⟨n + 1, hn⟩ a k).trans ?_
        rw [copy_eq]
        refine (congrArg (· + _) (read0 m c ⟨n + 1, hn⟩ a k)).trans ?_
        simp [h]
    · have ih := ih (Nat.lt_of_succ_lt hn) a
      have hd : (n + 1) / 8 = n / 8 := by omega
      have hm : (n + 1) % 8 = n % 8 + 1 := by omega
      simp only [hd, hm]
      have hr : ∀ k, (show Vec Ideal S512x2048 .bf16 from (outsAt0 m c (n + 1) hn).2) (ix2 a k) = _ := fun k =>
        (congrFun (next_carry m c ⟨n + 1, hn⟩ h) (ix2 a k)).trans (ih.1 k)
      refine ⟨hr, fun k => ?_⟩
      rw [next_out m c ⟨n + 1, hn⟩ h]
      refine (step_arr m c ⟨n + 1, hn⟩ _ _ a k fun k => ?_).trans ?_
      · simp only [hd]
        exact ih.1 k
      · simp only [hd, hm]
        rw [Finset.sum_range_succ, ← add_assoc]
        exact congrArg (· + _) (ih.2 k)

/-- The eight parts of a row's entry together are all 8192 hidden units. -/
theorem parts (r : Vec Ideal S2x4096x2048 .f32) (g : Vec Ideal S1x2048 .f32) (wu : Vec Ideal S1x2048x8192 .f32)
    (wd : Vec Ideal S1x8192x2048 .f32) (R : Fin 8192) (n : Fin 2048) :
    ∑ s ∈ Finset.range 8, part r g wu wd R n s = ∑ f, unitTerm r g wu wd R n f := by
  rw [Finset.sum_range]
  refine Fin.sum_mul_add_congr fun s k hl => ?_
  exact congrArg _ (Fin.ext (Nat.mod_eq_of_lt hl))

/-- The output block of a run's last point. -/
theorem last (c : Dev nD) (t : Fin cfg0.N) (h : t.val % 8 = 7) (a : Fin 512) (n : Fin 2048) :
    (show Vec Ideal S512x2048 .f32 from (outsAt0 m c t.val t.isLt).1) (ix2 a n)
      = mlpArr (argR m c) (argG m c) (argU m c) (argD m c) (ix2 (rowAt (t.val / 8) (by have := t_lt t; omega) a) n) := by
  refine ((state m c t.val t.isLt a).2 n).trans ?_
  rw [h]
  exact congrArg (_ + ·) (parts _ _ _ _ _ _)

/-- The kernel's result array. -/
theorem final (c : Dev nD) : (dats m 0 c).arrAt 4 cfg0.N = mlpArr (argR m c) (argG m c) (argU m c) (argD m c) := by
  refine (dats m 0 c).arrAt_eq_of_covers 4 _ (by decide +kernel) fun t hf y => ?_
  rw [after0_4, place t y]
  exact (congrArg (show Vec Ideal S512x2048 .f32 from (outsAt0 m c t.val t.isLt).1) (eq_ix2 (n0 := 512) (n1 := 2048) y)).trans
    (last m c t ((flush0_4 t).mp hf) (y 0) (y 1))

end Cert.Kernel2Ideal.Value

namespace Cert.Reference2Ideal.Value
open Cert.Reference2Ideal Cert.Reference2Ideal.Gen Idealize.ShloMosaic Idealize.ShloMosaic.TcCoe Idealize.SL.Sem

/-- The reference's composed term is the same function. -/
theorem ref_eq (r : FVec Ideal S2x4096x2048 .f32) (g : FVec Ideal S1x2048 .f32)
    (wu : FVec Ideal S1x2048x8192 .f32) (wd : FVec Ideal S1x8192x2048 .f32) :
    (show FVec Ideal S8192x2048 .f32 from shapeCast _ (addf r (Host.dotGeneral dot_S2x4096x8192_S8192x2048_S2x4096x2048_2_0_01_1_n_n none (mulf (maximumf (Host.dotGeneral dot_S2x4096x2048_S2048x8192_S2x4096x8192_2_0_01_1_n_n none (mulf (mulf r (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf r r) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))) (shapeCast _ wu shapeCasts_S1x2048x8192_S2048x8192)) (broadcastInDim S2x4096x8192 ![] bcast_S_S2x4096x8192 (constant S_ .f32 0x00000000#32))) (maximumf (Host.dotGeneral dot_S2x4096x2048_S2048x8192_S2x4096x8192_2_0_01_1_n_n none (mulf (mulf r (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf r r) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))) (shapeCast _ wu shapeCasts_S1x2048x8192_S2048x8192)) (broadcastInDim S2x4096x8192 ![] bcast_S_S2x4096x8192 (constant S_ .f32 0x00000000#32)))) (shapeCast _ wd shapeCasts_S1x8192x2048_S8192x2048))) shapeCasts_S2x4096x2048_S8192x2048)
      = Cert.Kernel2Ideal.Value.mlpArr r g wu wd := by
  funext i
  idx_vars i
  pointwise [Cert.Kernel2Ideal.Value.mlpArr, Cert.Kernel2Ideal.Value.row, Cert.Kernel2Ideal.Value.unitTerm,
    Cert.Kernel2Ideal.Value.hid, Cert.Kernel2Ideal.Value.unit, Rms.rms, Scalar.sigmoid]

end Cert.Reference2Ideal.Value
-- ==== Proof.Ple.lean ====
/- The gated per-layer embedding: what one block of 512 rows computes. -/
module

public import proofs.«01_k».proof.Proof.Gen.Kernel3Ideal.Value
public import proofs.«01_k».proof.Proof.Rms
public import Idealize.ShloMosaic.Lib.Pipeline.ValueKit
public import Idealize.ShloMosaic.Lib.Pipeline.ReadBack

@[expose] public section

set_option maxRecDepth 16384

noncomputable section

namespace Cert.Kernel3Ideal.Value
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

/-- One entry of the layer's last step: the residual plus the gate times the projected embedding. -/
def ple (x g : Fin 2048 → EReal) (p : Fin 256 → EReal) (wg : Fin 2048 → Fin 2048 → EReal) (wp : Fin 256 → Fin 2048 → EReal)
    (n : Fin 2048) : EReal :=
  x n + Scalar.sigmoid (∑ k, Rms.rms x g k * wg k n) * ∑ k, p k * wp k n

/-- The same on a block of 512 rows. -/
def pleBlock (x : Vec Ideal S512x2048 .f32) (g : Vec Ideal S1x2048 .f32) (p : Vec Ideal S512x256 .f32)
    (wg : Vec Ideal S2048x2048 .bf16) (wp : Vec Ideal S256x2048 .bf16) : Vec Ideal S512x2048 .f32 := fun y =>
  ple (fun k => x (ix2 (y 0) k)) (fun k => g (ix2 0 k)) (fun k => p (ix2 (y 0) k)) (fun k n => wg (ix2 k n))
    (fun k n => wp (ix2 k n)) (y 1)

/-- The place in the block of entry `z` of the column tile that begins at column `o`. -/
theorem emb_tile (o : Nat) (h : ∀ a, (![0, o] : Fin 2 → Nat) a + (![512, 512] : Fin 2 → Nat) a ≤ S512x2048.size a)
    (ho : o + 512 ≤ 2048) (z : S512x512.Idx) :
    (Rect.unit (s := S512x2048) ![0, o] ![512, 512] h).emb z
      = ix2 (z 0) ⟨o + z 1, lt_of_lt_of_le (Nat.add_lt_add_left (z 1).isLt o) ho⟩ := by
  funext a
  match a with
  | ⟨0, _⟩ => exact Fin.ext (by show 0 + 1 * (z 0).val = (z 0).val; omega)
  | ⟨1, _⟩ => exact Fin.ext (by show o + 1 * (z 1).val = o + (z 1).val; omega)

/-- What the kernel leaves of the output block after its eight stores: the block's entries, all of them. -/
theorem stores_eq (x : Vec Ideal S512x2048 .f32) (g : Vec Ideal S1x2048 .f32) (p : Vec Ideal S512x256 .f32)
    (wg : Vec Ideal S2048x2048 .bf16) (wp : Vec Ideal S256x2048 .bf16) (y : S512x2048.Idx)
    (L : List (View.Piece (Elt Ideal) S512x2048 .f32)) :
    View.canon ([⟨Rect.unit ![0, 1536] ![512, 512] inb_S512x2048_S512x512_0_1536,
          k0_pay1 (k0_pay9 (k0_pay7 x) (k0_pay8 x) g)
            (View.ld wg (Rect.unit ![0, 1536] ![2048, 512] inb_S2048x2048_S2048x512_0_1536))
            (View.ld x (Rect.unit ![0, 1536] ![512, 512] inb_S512x2048_S512x512_0_1536))
            (k0_pay6 p
              (View.ld wp (Rect.unit ![0, 1536] ![256, 512] inb_S256x2048_S256x512_0_1536)))⟩,
        ⟨Rect.unit ![0, 1024] ![512, 512] inb_S512x2048_S512x512_0_1024,
          k0_pay14 (k0_pay9 (k0_pay7 x) (k0_pay8 x) g)
            (View.ld wg (Rect.unit ![0, 1024] ![2048, 512] inb_S2048x2048_S2048x512_0_1024))
            (View.ld x (Rect.unit ![0, 1024] ![512, 512] inb_S512x2048_S512x512_0_1024))
            (k0_pay5 p
              (View.ld wp (Rect.unit ![0, 1024] ![256, 512] inb_S256x2048_S256x512_0_1024)))⟩,
        ⟨Rect.unit ![0, 512] ![512, 512] inb_S512x2048_S512x512_0_512,
          k0_pay13
            (k0_pay11 (k0_pay9 (k0_pay7 x) (k0_pay8 x) g)
              (View.ld wg (Rect.unit ![0, 512] ![2048, 512] inb_S2048x2048_S2048x512_0_512)))
            k0_pay12 (View.ld x (Rect.unit ![0, 512] ![512, 512] inb_S512x2048_S512x512_0_512))
            (k0_pay4 p
              (View.ld wp (Rect.unit ![0, 512] ![256, 512] inb_S256x2048_S256x512_0_512)))⟩,
        ⟨Rect.unit ![0, 0] ![512, 512] inb_S512x2048_S512x512_0_0,
          k0_pay10 (k0_pay9 (k0_pay7 x) (k0_pay8 x) g)
            (View.ld wg (Rect.unit ![0, 0] ![2048, 512] inb_S2048x2048_S2048x512_0_0))
            (View.ld x (Rect.unit ![0, 0] ![512, 512] inb_S512x2048_S512x512_0_0))
            (k0_pay3 p
              (View.ld wp (Rect.unit ![0, 0] ![256, 512] inb_S256x2048_S256x512_0_0)))⟩] ++ L) y
      = pleBlock x g p wg wp y := by
  refine View.canon_append_of_piecesOf (pleBlock x g p wg wp) L _ ?_ y
    (View.cover_of_tiledL _ ![512, 512] (by rfl) y)
  refine ⟨?_, ?_, ?_, ?_, trivial⟩
  all_goals
    intro z
    dsimp only
    rw [emb_tile _ _ (by norm_num)]
    pointwise [k0_pay1, k0_pay10, k0_pay11, k0_pay12, k0_pay13, k0_pay14, k0_pay9, k0_pay7, k0_pay8, k0_pay6, k0_pay5,
      k0_pay4, k0_pay3, k0_pay2, pleBlock, ple, Rms.rms]
    simp only [Scalar.half_tanh]

/-- What the result array holds after the run, from the arrays the region's windows stage. -/
theorem final5 (c : Dev nD) (G : FVec Ideal S8192x2048 .f32)
    (hG : ∀ t y, pleBlock (iblk m c 0 t) (iblk m c 1 t) (iblk m c 2 t) (iblk m c 3 t) (iblk m c 4 t) y
      = G (((cfg0.win 5).blk t).view.emb y)) : (dats m 0 c).arrAt 5 (cfgs 0).N = G := by
  refine (dats m 0 c).arrAt_eq_of_covers 5 _ (by decide +kernel) fun t _ y => ?_
  blk_simp
  rw [after0_5]
  unfold outsAt0
  frame_open
  simp (disch := decide) only [↓ View.readCov_skip, ↓ View.readCov_cons_toLoadRect, ↓ View.readCov_fill]
  frame_out
  exact (stores_eq _ _ _ _ _ y _).trans (hG t y)

end Cert.Kernel3Ideal.Value
-- ==== Proof.PleArray.lean ====
/- The gated per-layer embedding: what the kernel's result array holds and what the reference computes, both as one
   function of the arguments. -/
module

public import proofs.«01_k».proof.Proof.Ple
public import proofs.«01_k».proof.Proof.Gen.Reference3Ideal.Run

@[expose] public section

set_option maxRecDepth 16384

noncomputable section

namespace Cert.Kernel3Ideal.Value
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

/-- The layer's last step over the whole arrays, its rows numbered through the batch. -/
def pleArr (r : Vec Ideal S2x4096x2048 .f32) (p : Vec Ideal S1x2x4096x256 .f32) (g : Vec Ideal S1x2048 .f32)
    (wg : Vec Ideal S1x2048x2048 .f32) (wp : Vec Ideal S1x256x2048 .f32) : Vec Ideal S8192x2048 .f32 := fun i =>
  ple (fun k => r (ix3 ⟨(i 0).val / 4096, by have := (i 0).isLt; simp at this; omega⟩ ⟨(i 0).val % 4096, Nat.mod_lt _ (by norm_num)⟩ k))
    (fun k => g (ix2 0 k))
    (fun k => p (ix4 0 ⟨(i 0).val / 4096, by have := (i 0).isLt; simp at this; omega⟩ ⟨(i 0).val % 4096, Nat.mod_lt _ (by norm_num)⟩ k))
    (fun k n => wg (ix3 0 k n)) (fun k n => wp (ix3 0 k n)) (i 1)

/-- Where the windows' blocks lie at each of the 16 points. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- A function of six arguments at equal ones. -/
theorem congr_arg₆ {A B C D E G H : Type} (f : A → B → C → D → E → G → H) {a a' : A} {b b' : B} {c c' : C} {d d' : D} {e e' : E}
    (ha : a = a') (hb : b = b') (hc : c = c') (hd : d = d') (he : e = e') (x : G) : f a b c d e x = f a' b' c' d' e' x := by
  subst ha hb hc hd he; rfl

/-- There are 16 points. -/
theorem t_lt (t : Fin cfg0.N) : t.val < 16 := lt_of_lt_of_eq t.isLt N_0

/-- What a point stages: rows of the residual. -/
theorem read0 (c : Dev nD) (t : Fin cfg0.N) (a : Fin 512) (k : Fin 2048) :
    (show Vec Ideal S512x2048 .f32 from iblk m c 0 t) (ix2 a k) = (show Vec Ideal S2x4096x2048 .f32 from m ((c : Thread nD τ).loc main_arg0))
      (ix3 ⟨(t.val * 512 + a.val) / 4096, by have := t_lt t; omega⟩ ⟨(t.val * 512 + a.val) % 4096, Nat.mod_lt _ (by norm_num)⟩ k) := by
  blk_point [iblk, V, idx t]

/-- What a point stages: the gain. -/
theorem read1 (c : Dev nD) (t : Fin cfg0.N) (k : Fin 2048) :
    (show Vec Ideal S1x2048 .f32 from iblk m c 1 t) (ix2 0 k) = (show Vec Ideal S1x2048 .f32 from m ((c : Thread nD τ).loc main_arg2)) (ix2 0 k) := by
  blk_point [iblk, V, idx t]

/-- What a point stages: the gate's weights. -/
theorem read3 (c : Dev nD) (t : Fin cfg0.N) (k n : Fin 2048) :
    (show Vec Ideal S2048x2048 .bf16 from iblk m c 3 t) (ix2 k n) = (show Vec Ideal S1x2048x2048 .f32 from m ((c : Thread nD τ).loc main_arg3)) (ix3 0 k n) := by
  blk_point [iblk, V, idx t]

/-- What a point stages: rows of the embedding. -/
theorem read2 (c : Dev nD) (t : Fin cfg0.N) (a : Fin 512) (k : Fin 256) :
    (show Vec Ideal S512x256 .f32 from iblk m c 2 t) (ix2 a k) = (show Vec Ideal S1x2x4096x256 .f32 from m ((c : Thread nD τ).loc main_arg1))
      (ix4 0 ⟨(t.val * 512 + a.val) / 4096, by have := t_lt t; omega⟩ ⟨(t.val * 512 + a.val) % 4096, Nat.mod_lt _ (by norm_num)⟩ k) := by
  blk_point [iblk, V, idx t]

/-- What a point stages: the projection's weights. -/
theorem read4 (c : Dev nD) (t : Fin cfg0.N) (k : Fin 256) (n : Fin 2048) :
    (show Vec Ideal S256x2048 .bf16 from iblk m c 4 t) (ix2 k n) = (show Vec Ideal S1x256x2048 .f32 from m ((c : Thread nD τ).loc main_arg4)) (ix3 0 k n) := by
  blk_point [iblk, V, idx t]

/-- Where entry `y` of point `t`'s block lies in the result array. -/
theorem place (t : Fin cfg0.N) (y : S512x2048.Idx) : (((cfg0.win 5).blk t).view.emb y : S8192x2048.Idx)
    = ix2 ⟨t.val * 512 + (y 0).val, by have := t_lt t; have := (y 0).isLt; simp at this; omega⟩ (y 1) := by
  blk_ext [idx t]

/-- The kernel's result array after the run. -/
theorem final (c : Dev nD) : (dats m 0 c).arrAt 5 (cfgs 0).N
    = pleArr (m ((c : Thread nD τ).loc main_arg0)) (m ((c : Thread nD τ).loc main_arg1)) (m ((c : Thread nD τ).loc main_arg2))
        (m ((c : Thread nD τ).loc main_arg3)) (m ((c : Thread nD τ).loc main_arg4)) := by
  refine final5 m c _ fun t y => ?_
  rw [place t y]
  exact congr_arg₆ ple (funext fun k => read0 m c t (y 0) k) (funext fun k => read1 m c t k) (funext fun k => read2 m c t (y 0) k)
    (funext fun k => funext fun n => read3 m c t k n) (funext fun k => funext fun n => read4 m c t k n) (y 1)

end Cert.Kernel3Ideal.Value

namespace Cert.Reference3Ideal.Value
open Cert.Reference3Ideal Cert.Reference3Ideal.Gen Idealize.ShloMosaic Idealize.ShloMosaic.TcCoe Idealize.SL.Sem

/-- The reference's composed term is the same function. -/
theorem ref_eq (r : FVec Ideal S2x4096x2048 .f32) (p : FVec Ideal S1x2x4096x256 .f32) (g : FVec Ideal S1x2048 .f32)
    (wg : FVec Ideal S1x2048x2048 .f32) (wp : FVec Ideal S1x256x2048 .f32) :
    (show FVec Ideal S8192x2048 .f32 from shapeCast _ (addf r (mulf (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf (Host.dotGeneral dot_S2x4096x2048_S2048x2048_S2x4096x2048_2_0_01_1_n_n none (mulf (mulf r (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf r r) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))) (shapeCast _ wg shapeCasts_S1x2048x2048_S2048x2048)))))) (Host.dotGeneral dot_S2x4096x256_S256x2048_S2x4096x2048_2_0_01_1_n_n none (shapeCast _ p shapeCasts_S1x2x4096x256_S2x4096x256) (shapeCast _ wp shapeCasts_S1x256x2048_S256x2048)))) shapeCasts_S2x4096x2048_S8192x2048)
      = Cert.Kernel3Ideal.Value.pleArr r p g wg wp := by
  funext i
  idx_vars i
  pointwise [Cert.Kernel3Ideal.Value.pleArr, Cert.Kernel3Ideal.Value.ple, Rms.rms, Scalar.sigmoid]

end Cert.Reference3Ideal.Value
-- ==== Proof.Mix.lean ====
/- The merge of the attention and convolution branches: what one block of 512 rows computes. -/
module

public import proofs.«01_k».proof.Proof.Gen.Kernel4Ideal.Value
public import proofs.«01_k».proof.Proof.Scalar
public import Idealize.ShloMosaic.Lib.Pipeline.ValueKit
public import Idealize.ShloMosaic.Lib.Pipeline.ReadBack

@[expose] public section

set_option maxRecDepth 16384

noncomputable section

namespace Cert.Kernel4Ideal.Value
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ)

/-- The causal convolution of width three, gated: a row of the gate, the rows 2, 1 and 0 places back, the three taps. -/
def gated (cb u2 u1 u0 : Fin 1024 → EReal) (w : Fin 3 → Fin 1024 → EReal) (k : Fin 1024) : EReal :=
  cb k * (w 0 k * u2 k + w 1 k * u1 k + w 2 k * u0 k)

/-- The two branches, each through its weights and its gate, added. -/
def merged (sa sc : Fin 2048 → EReal) (attn cin : Fin 1024 → EReal) (wa wc : Fin 1024 → Fin 2048 → EReal) (j : Fin 2048) : EReal :=
  sa j * (∑ k, attn k * wa k j) + sc j * ∑ k, cin k * wc k j

/-- The residual plus the merged row through the output weights. -/
def mix (x mg : Fin 2048 → EReal) (wo : Fin 2048 → Fin 2048 → EReal) (n : Fin 2048) : EReal := x n + ∑ j, mg j * wo j n

/-- The buffer of rows: eight rows from before the block, then the block's 512. -/
def rows (p : Vec Ideal S8x1024 .f32) (u : Vec Ideal S512x1024 .f32) : Vec Ideal S520x1024 .f32 := fun z =>
  if h : (z 0).val < 8 then p (ix2 ⟨(z 0).val, h⟩ (z 1))
  else u (ix2 ⟨(z 0).val - 8, by have := (z 0).isLt; simp at this; omega⟩ (z 1))

/-- What the two stores leave of that buffer. -/
theorem rows_eq (p : Vec Ideal S8x1024 .f32) (u : Vec Ideal S512x1024 .f32) (z : S520x1024.Idx) :
    View.canon (Val := Elt Ideal) [⟨Rect.unit ![8, 0] ![512, 1024] inb_S520x1024_S512x1024_8_0, u⟩,
      ⟨Rect.unit ![0, 0] ![8, 1024] inb_S520x1024_S8x1024_0_0, p⟩] z = rows p u z := by
  refine View.canon_append_of_piecesOf (rows p u) [] [⟨Rect.unit ![8, 0] ![512, 1024] inb_S520x1024_S512x1024_8_0, u⟩,
    ⟨Rect.unit ![0, 0] ![8, 1024] inb_S520x1024_S8x1024_0_0, p⟩] ?_ z ?_
  · refine ⟨?_, ?_, trivial⟩
    · intro z
      have e : (Rect.unit (s := S520x1024) ![8, 0] ![512, 1024] inb_S520x1024_S512x1024_8_0).emb z
          = ix2 ⟨8 + (z 0).val, by have := (z 0).isLt; simp at this; omega⟩ (z 1) := by
        funext a
        match a with
        | ⟨0, _⟩ => exact Fin.ext (by show 8 + 1 * (z 0).val = 8 + (z 0).val; omega)
        | ⟨1, _⟩ => exact Fin.ext (by show 0 + 1 * (z 1).val = (z 1).val; omega)
      dsimp only
      rw [e]
      unfold rows
      rw [dif_neg (by simp)]
      exact congrArg u ((eq_ix2 (n0 := 512) (n1 := 1024) z).trans (congrArg (ix2 · _) (Fin.ext (by simp))))
    · intro z
      have e : (Rect.unit (s := S520x1024) ![0, 0] ![8, 1024] inb_S520x1024_S8x1024_0_0).emb z
          = ix2 ⟨(z 0).val, by have := (z 0).isLt; simp at this; omega⟩ (z 1) := by
        funext a
        match a with
        | ⟨0, _⟩ => exact Fin.ext (by show 0 + 1 * (z 0).val = (z 0).val; omega)
        | ⟨1, _⟩ => exact Fin.ext (by show 0 + 1 * (z 1).val = (z 1).val; omega)
      dsimp only
      rw [e]
      unfold rows
      rw [dif_pos (by exact (z 0).isLt)]
      exact congrArg p (eq_ix2 (n0 := 8) (n1 := 1024) z)
  · by_cases h : (z 0).val < 8
    · refine ⟨⟨Rect.unit ![0, 0] ![8, 1024] inb_S520x1024_S8x1024_0_0, p⟩, List.mem_cons_of_mem _ List.mem_cons_self, (Rect.mem_set_unit (inb := inb_S520x1024_S8x1024_0_0)).mpr fun a => ?_⟩
      match a with
      | ⟨0, _⟩ => exact ⟨Nat.zero_le _, by simpa using h⟩
      | ⟨1, _⟩ => exact ⟨Nat.zero_le _, by simpa using (z 1).isLt⟩
    · refine ⟨⟨Rect.unit ![8, 0] ![512, 1024] inb_S520x1024_S512x1024_8_0, u⟩, List.mem_cons_self, (Rect.mem_set_unit (inb := inb_S520x1024_S512x1024_8_0)).mpr fun a => ?_⟩
      match a with
      | ⟨0, _⟩ => exact ⟨by simpa using h, by simpa using (z 0).isLt⟩
      | ⟨1, _⟩ => exact ⟨Nat.zero_le _, by simpa using (z 1).isLt⟩

/-- The 512 rows of the buffer that begin at row `o`, so `8 - o` places back. -/
def back (o : ℕ) (ho : o ≤ 8) (p : Vec Ideal S8x1024 .f32) (u : Vec Ideal S512x1024 .f32) : Vec Ideal S512x1024 .f32 := fun y =>
  rows p u (ix2 ⟨o + (y 0).val, by have := (y 0).isLt; simp at this; omega⟩ (y 1))

/-- A load of those rows. -/
theorem load_rows {sig' : RefSig} {κ : Kind} {sp : Space} (v : View sig' κ sp S520x1024 .f32) (p : Vec Ideal S8x1024 .f32)
    (u : Vec Ideal S512x1024 .f32) (o : ℕ) (h : ∀ a, (![o, 0] : Fin 2 → Nat) a + (![512, 1024] : Fin 2 → Nat) a ≤ S520x1024.size a)
    (ho : o ≤ 8) :
    v.readCov (Val := Elt Ideal) [⟨Rect.unit ![8, 0] ![512, 1024] inb_S520x1024_S512x1024_8_0, u⟩,
      ⟨Rect.unit ![0, 0] ![8, 1024] inb_S520x1024_S8x1024_0_0, p⟩] (Rect.unit (s := S520x1024) ![o, 0] ![512, 1024] h).toLoadRect
      = back o ho p u := by
  rw [View.readCov_eq_canon']
  funext y
  refine (rows_eq p u _).trans (congrArg (rows p u) (funext fun a => ?_))
  match a with
  | ⟨0, _⟩ => exact Fin.ext (by show o + 1 * (y 0).val = o + (y 0).val; omega)
  | ⟨1, _⟩ => exact Fin.ext (by show 0 + 1 * (y 1).val = (y 1).val; omega)

/-- The gated convolution on a block of 512 rows. -/
def gatedBlock (p : Vec Ideal S8x1024 .f32) (u : Vec Ideal S512x1024 .f32) (w : Vec Ideal S3x1024 .f32) (cb : Vec Ideal S512x1024 .bf16) :
    Vec Ideal S512x1024 .bf16 := fun y =>
  gated (fun k => cb (ix2 (y 0) k)) (fun k => back 6 (by norm_num) p u (ix2 (y 0) k))
    (fun k => back 7 (by norm_num) p u (ix2 (y 0) k)) (fun k => u (ix2 (y 0) k))
    (fun d k => w (ix2 d k)) (y 1)

/-- What the kernel stores as the convolution branch's input. -/
theorem gated_eq (p : Vec Ideal S8x1024 .f32) (u : Vec Ideal S512x1024 .f32) (w : Vec Ideal S3x1024 .f32) (cb : Vec Ideal S512x1024 .bf16) :
    k0_pay9 (F := Ideal) (k0_pay6 w) (k0_pay7 w (back 6 (by norm_num) p u))
      (k0_pay8 w (back 7 (by norm_num) p u)) u cb
      = gatedBlock p u w cb := by
  funext y
  idx_vars y
  pointwise [k0_pay9, k0_pay6, k0_pay7, k0_pay8, gatedBlock, gated]

/-- The place in the block of entry `z` of the column tile that begins at column `o`. -/
theorem emb_tile (o : Nat) (h : ∀ a, (![0, o] : Fin 2 → Nat) a + (![512, 512] : Fin 2 → Nat) a ≤ S512x2048.size a)
    (ho : o + 512 ≤ 2048) (z : S512x512.Idx) :
    (Rect.unit (s := S512x2048) ![0, o] ![512, 512] h).emb z
      = ix2 (z 0) ⟨o + z 1, lt_of_lt_of_le (Nat.add_lt_add_left (z 1).isLt o) ho⟩ := by
  funext a
  match a with
  | ⟨0, _⟩ => exact Fin.ext (by show 0 + 1 * (z 0).val = (z 0).val; omega)
  | ⟨1, _⟩ => exact Fin.ext (by show o + 1 * (z 1).val = o + (z 1).val; omega)

/-- The merged branches on a block of 512 rows. -/
def mergedBlock (sa sc : Vec Ideal S512x2048 .bf16) (attn cin : Vec Ideal S512x1024 .bf16) (wa wc : Vec Ideal S1024x2048 .bf16) :
    Vec Ideal S512x2048 .bf16 := fun y =>
  merged (fun j => sa (ix2 (y 0) j)) (fun j => sc (ix2 (y 0) j)) (fun k => attn (ix2 (y 0) k)) (fun k => cin (ix2 (y 0) k))
    (fun k j => wa (ix2 k j)) (fun k j => wc (ix2 k j)) (y 1)

/-- What the four stores leave of the merged rows, read back whole. -/
theorem merged_eq {sig' : RefSig} {κ : Kind} {sp : Space} (v : View sig' κ sp S512x2048 .bf16)
    (sa sc : Vec Ideal S512x2048 .bf16) (attn cin : Vec Ideal S512x1024 .bf16) (wa wc : Vec Ideal S1024x2048 .bf16) :
    v.readCov (Val := Elt Ideal) [⟨Rect.unit ![0, 1536] ![512, 512] inb_S512x2048_S512x512_0_1536, k0_pay20 cin (View.ld wc (Rect.unit ![0, 1536] ![1024, 512] inb_S1024x2048_S1024x512_0_1536)) (k0_pay13 (View.ld sa (Rect.unit ![0, 1536] ![512, 512] inb_S512x2048_S512x512_0_1536)) attn (View.ld wa (Rect.unit ![0, 1536] ![1024, 512] inb_S1024x2048_S1024x512_0_1536))) (View.ld sc (Rect.unit ![0, 1536] ![512, 512] inb_S512x2048_S512x512_0_1536))⟩,
        ⟨Rect.unit ![0, 1024] ![512, 512] inb_S512x2048_S512x512_0_1024, k0_pay19 (k0_pay18 cin (View.ld wc (Rect.unit ![0, 1024] ![1024, 512] inb_S1024x2048_S1024x512_0_1024)) (k0_pay12 (View.ld sa (Rect.unit ![0, 1024] ![512, 512] inb_S512x2048_S512x512_0_1024)) attn (View.ld wa (Rect.unit ![0, 1024] ![1024, 512] inb_S1024x2048_S1024x512_0_1024))) (View.ld sc (Rect.unit ![0, 1024] ![512, 512] inb_S512x2048_S512x512_0_1024)))⟩,
        ⟨Rect.unit ![0, 512] ![512, 512] inb_S512x2048_S512x512_0_512, k0_pay17 cin (View.ld wc (Rect.unit ![0, 512] ![1024, 512] inb_S1024x2048_S1024x512_0_512)) (k0_pay11 (View.ld sa (Rect.unit ![0, 512] ![512, 512] inb_S512x2048_S512x512_0_512)) attn (View.ld wa (Rect.unit ![0, 512] ![1024, 512] inb_S1024x2048_S1024x512_0_512))) (View.ld sc (Rect.unit ![0, 512] ![512, 512] inb_S512x2048_S512x512_0_512))⟩,
        ⟨Rect.unit ![0, 0] ![512, 512] inb_S512x2048_S512x512_0_0, k0_pay16 (k0_pay14 (k0_pay10 (View.ld sa (Rect.unit ![0, 0] ![512, 512] inb_S512x2048_S512x512_0_0)) attn (View.ld wa (Rect.unit ![0, 0] ![1024, 512] inb_S1024x2048_S1024x512_0_0)))) (k0_pay15 cin (View.ld wc (Rect.unit ![0, 0] ![1024, 512] inb_S1024x2048_S1024x512_0_0)) (View.ld sc (Rect.unit ![0, 0] ![512, 512] inb_S512x2048_S512x512_0_0)))⟩] (Rect.unit (s := S512x2048) ![0, 0] ![512, 2048] inb_S512x2048_S512x2048_0_0).toLoadRect
      = mergedBlock sa sc attn cin wa wc := by
  rw [View.readCov_eq_canon']
  funext y
  have e : (Rect.unit (s := S512x2048) ![0, 0] ![512, 2048] inb_S512x2048_S512x2048_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  rw [e]
  rw [← List.append_nil (List.cons _ _)]
  refine (View.canon_append_of_piecesOf (mergedBlock sa sc attn cin wa wc) [] _ ?_ y (View.cover_of_tiledL _ ![512, 512] (by rfl) y))
  refine ⟨?_, ?_, ?_, ?_, trivial⟩
  all_goals
    intro z
    dsimp only
    rw [emb_tile _ _ (by norm_num)]
    pointwise [k0_pay10, k0_pay11, k0_pay12, k0_pay13, k0_pay14, k0_pay15, k0_pay16, k0_pay17, k0_pay18, k0_pay19, k0_pay20,
      mergedBlock, merged]

/-- The block's result. -/
def mixBlock (x : Vec Ideal S512x2048 .f32) (mg : Vec Ideal S512x2048 .bf16) (wo : Vec Ideal S2048x2048 .bf16) :
    Vec Ideal S512x2048 .f32 := fun y =>
  mix (fun j => x (ix2 (y 0) j)) (fun j => mg (ix2 (y 0) j)) (fun j n => wo (ix2 j n)) (y 1)

/-- What the last four stores leave of the output block, whatever was stored before them. -/
theorem stores_eq (x : Vec Ideal S512x2048 .f32) (mg : Vec Ideal S512x2048 .bf16) (wo : Vec Ideal S2048x2048 .bf16) (y : S512x2048.Idx)
    (L : List (View.Piece (Elt Ideal) S512x2048 .f32)) :
    View.canon ([⟨Rect.unit ![0, 1536] ![512, 512] inb_S512x2048_S512x512_0_1536, k0_pay3 (View.ld x (Rect.unit ![0, 1536] ![512, 512] inb_S512x2048_S512x512_0_1536)) mg (View.ld wo (Rect.unit ![0, 1536] ![2048, 512] inb_S2048x2048_S2048x512_0_1536))⟩,
        ⟨Rect.unit ![0, 1024] ![512, 512] inb_S512x2048_S512x512_0_1024, k0_pay2 (View.ld x (Rect.unit ![0, 1024] ![512, 512] inb_S512x2048_S512x512_0_1024)) mg (View.ld wo (Rect.unit ![0, 1024] ![2048, 512] inb_S2048x2048_S2048x512_0_1024))⟩,
        ⟨Rect.unit ![0, 512] ![512, 512] inb_S512x2048_S512x512_0_512, k0_pay1 (k0_pay22 (View.ld x (Rect.unit ![0, 512] ![512, 512] inb_S512x2048_S512x512_0_512))) (k0_pay23 mg (View.ld wo (Rect.unit ![0, 512] ![2048, 512] inb_S2048x2048_S2048x512_0_512)))⟩,
        ⟨Rect.unit ![0, 0] ![512, 512] inb_S512x2048_S512x512_0_0, k0_pay21 (View.ld x (Rect.unit ![0, 0] ![512, 512] inb_S512x2048_S512x512_0_0)) mg (View.ld wo (Rect.unit ![0, 0] ![2048, 512] inb_S2048x2048_S2048x512_0_0))⟩] ++ L) y = mixBlock x mg wo y := by
  refine View.canon_append_of_piecesOf (mixBlock x mg wo) L _ ?_ y (View.cover_of_tiledL _ ![512, 512] (by rfl) y)
  refine ⟨?_, ?_, ?_, ?_, trivial⟩
  all_goals
    intro z
    dsimp only
    rw [emb_tile _ _ (by norm_num)]
    pointwise [k0_pay1, k0_pay2, k0_pay3, k0_pay21, k0_pay22, k0_pay23, mixBlock, mix]

/-- The rows before the block: none at the start of a sequence. -/
theorem halo_eq (t : Fin cfg0.N) (h : Vec Ideal S8x1024 .bf16) (a : Fin 8) (k : Fin 1024) :
    k0_pay4 (F := Ideal) (grid0.coords t) h (ix2 a k) = if t.val % 8 = 0 then 0 else h (ix2 a k) := by
  have hb : ∀ t : Fin grid0.N, (let arg0 := BitVec.ofNat 32 ((grid0.coords t) 0).val
      let v4 := Scalar.select (Scalar.cmpi .eq 8#32 0#32) 1#32 8#32
      let v5 := Scalar.remsi arg0 v4
      Scalar.cmpi .eq (Scalar.select (Scalar.andi (Scalar.xori (Scalar.cmpi .slt v5 0#32) (Scalar.cmpi .slt v4 0#32))
        (Scalar.cmpi .ne v5 0#32)) (Scalar.addi v5 v4) v5) 0#32) = if t.val % 8 = 0 then 1#1 else 0#1 := by decide +kernel
  have hb := hb t
  dsimp only at hb
  unfold k0_pay4
  dsimp only
  rw [hb]
  by_cases h0 : t.val % 8 = 0
  · rw [if_pos h0, if_pos h0]
    pointwise []
  · rw [if_neg h0, if_neg h0]
    pointwise []

/-- What the result array holds after the run, from the arrays the region's windows stage. -/
theorem final11 (c : Dev nD) (G : FVec Ideal S8192x2048 .f32)
    (hG : ∀ t y, mixBlock (iblk m c 7 t) (mergedBlock (X0_5 m c t) (X0_6 m c t) (iblk m c 0 t)
        (gatedBlock (k0_pay4 (grid0.coords t) (iblk m c 3 t)) (k0_pay5 (iblk m c 2 t)) (iblk m c 4 t) (iblk m c 1 t))
        (iblk m c 8 t) (iblk m c 9 t)) (iblk m c 10 t) y
      = G (((cfg0.win 11).blk t).view.emb y)) : (dats m 0 c).arrAt 11 (cfgs 0).N = G := by
  refine (dats m 0 c).arrAt_eq_of_covers 11 _ (by decide +kernel) fun t _ y => ?_
  blk_simp
  rw [after0_11]
  unfold outsAt0
  frame_open
  simp (disch := decide) only [↓ View.readCov_skip, ↓ View.readCov_cons_toLoadRect, ↓ View.readCov_fill]
  frame_out
  refine Eq.trans ?_ (hG t y)
  rw [load_rows _ _ _ 6 _ (by norm_num), load_rows _ _ _ 7 _ (by norm_num), gated_eq, merged_eq]
  exact stores_eq _ _ _ y _

end Cert.Kernel4Ideal.Value
-- ==== Proof.MixArray.lean ====
/- The merge of the attention and convolution branches: what the kernel's result array holds and what the reference
   computes, both as one function of the arguments. -/
module

public import proofs.«01_k».proof.Proof.Mix
public import proofs.«01_k».proof.Proof.Gen.Reference4Ideal.Run

@[expose] public section

set_option maxRecDepth 16384

noncomputable section

namespace Cert.Kernel4Ideal.Value
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ)

/-- Row `R` of the batch's 8192 rows, of an array of 2048 columns. -/
def row (r : Vec Ideal S2x4096x2048 .f32) (R : Fin 8192) (k : Fin 2048) : EReal :=
  r (ix3 ⟨R.val / 4096, by omega⟩ ⟨R.val % 4096, Nat.mod_lt _ (by norm_num)⟩ k)

/-- The same of an array of 1024 columns. -/
def rowC (r : Vec Ideal S2x4096x1024 .f32) (R : Fin 8192) (k : Fin 1024) : EReal :=
  r (ix3 ⟨R.val / 4096, by omega⟩ ⟨R.val % 4096, Nat.mod_lt _ (by norm_num)⟩ k)

/-- The row `d` places back in the same sequence; before the sequence's start it is zero. -/
def rowBack (u : Vec Ideal S2x4096x1024 .f32) (d : ℕ) (R : Fin 8192) (k : Fin 1024) : EReal :=
  if d ≤ R.val % 4096 then u (ix3 ⟨R.val / 4096, by omega⟩ ⟨R.val % 4096 - d, by omega⟩ k) else 0

/-- The merge over the whole arrays, its rows numbered through the batch. -/
def mixArr (attn : Vec Ideal S2x4096x1024 .f32) (sa sc : Vec Ideal S2x4096x2048 .f32) (cb u : Vec Ideal S2x4096x1024 .f32)
    (x : Vec Ideal S2x4096x2048 .f32) (w : Vec Ideal S1x3x1024 .f32) (wa wc : Vec Ideal S1x1024x2048 .f32)
    (wo : Vec Ideal S1x2048x2048 .f32) : Vec Ideal S8192x2048 .f32 := fun i =>
  mix (row x (i 0))
    (merged (row sa (i 0)) (row sc (i 0)) (rowC attn (i 0))
      (gated (rowC cb (i 0)) (rowBack u 2 (i 0)) (rowBack u 1 (i 0)) (rowC u (i 0)) (fun d k => w (ix3 0 d k)))
      (fun k j => wa (ix3 0 k j)) (fun k j => wc (ix3 0 k j)))
    (fun j n => wo (ix3 0 j n)) (i 1)

/-- The arguments, at their plain types. -/
abbrev argAttn (c : Dev nD) : Vec Ideal S2x4096x1024 .f32 := m ((c : Thread nD τ).loc main_arg0)
abbrev argSa (c : Dev nD) : Vec Ideal S2x4096x2048 .f32 := m ((c : Thread nD τ).loc main_arg1)
abbrev argSc (c : Dev nD) : Vec Ideal S2x4096x2048 .f32 := m ((c : Thread nD τ).loc main_arg2)
abbrev argCb (c : Dev nD) : Vec Ideal S2x4096x1024 .f32 := m ((c : Thread nD τ).loc main_arg3)
abbrev argU (c : Dev nD) : Vec Ideal S2x4096x1024 .f32 := m ((c : Thread nD τ).loc main_arg4)
abbrev argX (c : Dev nD) : Vec Ideal S2x4096x2048 .f32 := m ((c : Thread nD τ).loc main_arg5)
abbrev argW (c : Dev nD) : Vec Ideal S1x3x1024 .f32 := m ((c : Thread nD τ).loc main_arg6)
abbrev argWa (c : Dev nD) : Vec Ideal S1x1024x2048 .f32 := m ((c : Thread nD τ).loc main_arg7)
abbrev argWc (c : Dev nD) : Vec Ideal S1x1024x2048 .f32 := m ((c : Thread nD τ).loc main_arg8)
abbrev argWo (c : Dev nD) : Vec Ideal S1x2048x2048 .f32 := m ((c : Thread nD τ).loc main_arg9)

/-- Where the windows' blocks lie at each of the 16 points. -/
theorem idx : ∀ t : Fin cfg0.N, win0_0.index t = ![t.val, 0] ∧ win0_1.index t = ![t.val, 7] ∧ win0_2.index t = ![t.val, 8]
    ∧ win0_3.index t = ![t.val * 64 - 1, 8] ∧ win0_4.index t = ![0, 0] ∧ win0_5.index t = ![t.val, 0] ∧ win0_6.index t = ![t.val, 1]
    ∧ win0_7.index t = ![t.val, 0] ∧ win0_8.index t = ![0, 0] ∧ win0_9.index t = ![0, 0] ∧ win0_10.index t = ![0, 0]
    ∧ win0_11.index t = ![t.val, 0] :=
  (by decide +kernel : ∀ t : Fin grid0.N, _)

/-- There are 16 points. -/
theorem t_lt (t : Fin cfg0.N) : t.val < 16 := lt_of_lt_of_eq t.isLt N_0

/-- The array's row of row `a` of point `t`'s block. -/
def rowAt (t : Fin cfg0.N) (a : Fin 512) : Fin 8192 := ⟨t.val * 512 + a.val, by have := t_lt t; omega⟩

/-- The array of gates and convolution inputs that the host packs: its columns, one array after another. -/
theorem z_eq (c : Dev nD) : (show Vec Ideal S8192x9216 .bf16 from V m c main_v5) = truncf .bf16 (shapeCast S8192x9216
    (concatenate S2x4096x9216 2 [⟨S2x4096x2048, argSa m c⟩, ⟨S2x4096x2048, argSc m c⟩,
      ⟨S2x4096x3072, broadcastInDim S2x4096x3072 ![] bcast_S_S2x4096x3072 (constant (F := Ideal) S_ .f32 0x00000000#32)⟩,
      ⟨S2x4096x1024, argCb m c⟩, ⟨S2x4096x1024, argU m c⟩]
      concatenates_S2x4096x2048_S2x4096x2048_S2x4096x3072_S2x4096x1024_S2x4096x1024_S2x4096x9216_d2)
    shapeCasts_S2x4096x9216_S8192x9216) bitsLt_bf16_f32 := rfl

/-- Its first columns: the attention's gate. -/
theorem z_sa (c : Dev nD) (R : Fin 8192) (k : Fin 2048) :
    (show Vec Ideal S8192x9216 .bf16 from V m c main_v5) (ix2 R ⟨0 + k.val, by omega⟩) = row (argSa m c) R k := by
  rw [z_eq]
  simp only [row, rowC]
  pointwise []

/-- Its next columns: the convolution branch's gate. -/
theorem z_sc (c : Dev nD) (R : Fin 8192) (k : Fin 2048) :
    (show Vec Ideal S8192x9216 .bf16 from V m c main_v5) (ix2 R ⟨2048 + k.val, by omega⟩) = row (argSc m c) R k := by
  rw [z_eq]
  simp only [row, rowC]
  pointwise []

/-- Its columns from 7168: the convolution's gate. -/
theorem z_cb (c : Dev nD) (R : Fin 8192) (k : Fin 1024) :
    (show Vec Ideal S8192x9216 .bf16 from V m c main_v5) (ix2 R ⟨7168 + k.val, by omega⟩) = rowC (argCb m c) R k := by
  rw [z_eq]
  simp only [row, rowC]
  pointwise []
  refine (dif_neg (by omega)).trans ?_
  refine (dif_neg (by omega)).trans ?_
  refine (dif_neg (by omega)).trans ?_
  refine (dif_pos (by omega)).trans ?_
  exact congrArg (fun q => argCb m c (ix3 _ _ q)) (Fin.ext (by dsimp only <;> omega))

/-- Its columns from 8192: the convolution's input. -/
theorem z_u (c : Dev nD) (R : Fin 8192) (k : Fin 1024) :
    (show Vec Ideal S8192x9216 .bf16 from V m c main_v5) (ix2 R ⟨8192 + k.val, by omega⟩) = rowC (argU m c) R k := by
  rw [z_eq]
  simp only [row, rowC]
  pointwise []
  refine (dif_neg (by omega)).trans ?_
  refine (dif_neg (by omega)).trans ?_
  refine (dif_neg (by omega)).trans ?_
  refine (dif_neg (by omega)).trans ?_
  exact congrArg (fun q => argU m c (ix3 _ _ q)) (Fin.ext (by dsimp only <;> omega))

/-- What a point stages: rows of the attention's output. -/
theorem read0 (c : Dev nD) (t : Fin cfg0.N) (a : Fin 512) (k : Fin 1024) :
    (show Vec Ideal S512x1024 .bf16 from iblk m c 0 t) (ix2 a k) = rowC (argAttn m c) (rowAt t a) k := by
  simp only [rowC, rowAt]
  blk_point [iblk, V, idx t]

/-- What a point stages: rows of the convolution's gate. -/
theorem read1 (c : Dev nD) (t : Fin cfg0.N) (a : Fin 512) (k : Fin 1024) :
    (show Vec Ideal S512x1024 .bf16 from iblk m c 1 t) (ix2 a k) = rowC (argCb m c) (rowAt t a) k := by
  rw [← z_cb m c]
  simp only [rowAt]
  blk_point [iblk, idx t]

/-- What a point stages: rows of the convolution's input. -/
theorem read2 (c : Dev nD) (t : Fin cfg0.N) (a : Fin 512) (k : Fin 1024) :
    (show Vec Ideal S512x1024 .bf16 from iblk m c 2 t) (ix2 a k) = rowC (argU m c) (rowAt t a) k := by
  rw [← z_u m c]
  simp only [rowAt]
  blk_point [iblk, idx t]

/-- What a point stages: the eight rows of the convolution's input before its block. -/
theorem read3 (c : Dev nD) (t : Fin cfg0.N) (h : t.val ≠ 0) (a : Fin 8) (k : Fin 1024) :
    (show Vec Ideal S8x1024 .bf16 from iblk m c 3 t) (ix2 a k)
      = rowC (argU m c) ⟨t.val * 512 - 8 + a.val, by have := t_lt t; omega⟩ k := by
  rw [← z_u m c]
  blk_point [iblk, idx t]

/-- What a point stages: the convolution's taps. -/
theorem read4 (c : Dev nD) (t : Fin cfg0.N) (d : Fin 3) (k : Fin 1024) :
    (show Vec Ideal S3x1024 .f32 from iblk m c 4 t) (ix2 d k) = argW m c (ix3 0 d k) := by
  blk_point [iblk, V, idx t]

/-- What a point stages: rows of the attention's gate. -/
theorem read5 (c : Dev nD) (t : Fin cfg0.N) (a : Fin 512) (k : Fin 2048) :
    (show Vec Ideal S512x2048 .bf16 from X0_5 m c t) (ix2 a k) = row (argSa m c) (rowAt t a) k := by
  rw [← z_sa m c]
  simp only [rowAt]
  refine (dif_pos (moved0_5 t (ix2 a k))).trans ?_
  blk_point [iblk, idx t]

/-- What a point stages: rows of the convolution branch's gate. -/
theorem read6 (c : Dev nD) (t : Fin cfg0.N) (a : Fin 512) (k : Fin 2048) :
    (show Vec Ideal S512x2048 .bf16 from X0_6 m c t) (ix2 a k) = row (argSc m c) (rowAt t a) k := by
  rw [← z_sc m c]
  simp only [rowAt]
  refine (dif_pos (moved0_6 t (ix2 a k))).trans ?_
  blk_point [iblk, idx t]

/-- What a point stages: rows of the residual. -/
theorem read7 (c : Dev nD) (t : Fin cfg0.N) (a : Fin 512) (k : Fin 2048) :
    (show Vec Ideal S512x2048 .f32 from iblk m c 7 t) (ix2 a k) = row (argX m c) (rowAt t a) k := by
  simp only [row, rowAt]
  blk_point [iblk, V, idx t]

/-- What a point stages: the attention's output weights. -/
theorem read8 (c : Dev nD) (t : Fin cfg0.N) (k : Fin 1024) (n : Fin 2048) :
    (show Vec Ideal S1024x2048 .bf16 from iblk m c 8 t) (ix2 k n) = argWa m c (ix3 0 k n) := by
  blk_point [iblk, V, idx t]

/-- What a point stages: the convolution's output weights. -/
theorem read9 (c : Dev nD) (t : Fin cfg0.N) (k : Fin 1024) (n : Fin 2048) :
    (show Vec Ideal S1024x2048 .bf16 from iblk m c 9 t) (ix2 k n) = argWc m c (ix3 0 k n) := by
  blk_point [iblk, V, idx t]

/-- What a point stages: the merged rows' weights. -/
theorem read10 (c : Dev nD) (t : Fin cfg0.N) (k n : Fin 2048) :
    (show Vec Ideal S2048x2048 .bf16 from iblk m c 10 t) (ix2 k n) = argWo m c (ix3 0 k n) := by
  blk_point [iblk, V, idx t]

/-- Where entry `y` of point `t`'s block lies in the result array. -/
theorem place (t : Fin cfg0.N) (y : S512x2048.Idx) : (((cfg0.win 11).blk t).view.emb y : S8192x2048.Idx) = ix2 (rowAt t (y 0)) (y 1) := by
  simp only [rowAt]
  blk_ext [idx t]

/-- A row of the buffer before the block. -/
theorem rows_lt (p : Vec Ideal S8x1024 .f32) (u : Vec Ideal S512x1024 .f32) (n : ℕ) (hn : n < 520) (h : n < 8) (k : Fin 1024) :
    rows p u (ix2 ⟨n, hn⟩ k) = p (ix2 ⟨n, h⟩ k) := dif_pos h

/-- A row of the block in the buffer. -/
theorem rows_ge (p : Vec Ideal S8x1024 .f32) (u : Vec Ideal S512x1024 .f32) (n : ℕ) (hn : n < 520) (h : ¬ n < 8) (k : Fin 1024) :
    rows p u (ix2 ⟨n, hn⟩ k) = u (ix2 ⟨n - 8, by omega⟩ k) := dif_neg h

/-- Entries at equal coordinates are equal. -/
theorem at_eq (u : Vec Ideal S2x4096x1024 .f32) (p p' : Fin 2) (q q' : Fin 4096) (k : Fin 1024) (hp : p.val = p'.val)
    (hq : q.val = q'.val) : u (ix3 p q k) = u (ix3 p' q' k) := by
  rw [Fin.ext hp, Fin.ext hq]

/-- The rows a point's convolution reads, `8 - o` places back, are the array's rows that far back. -/
theorem back_eq (c : Dev nD) (t : Fin cfg0.N) (o : ℕ) (ho : o ≤ 8) (a : Fin 512) (k : Fin 1024) :
    back o ho (k0_pay4 (grid0.coords t) (iblk m c 3 t)) (k0_pay5 (iblk m c 2 t)) (ix2 a k)
      = rowBack (argU m c) (8 - o) (rowAt t a) k := by
  have ht := t_lt t
  have hu : ∀ a k, k0_pay5 (F := Ideal) (iblk m c 2 t) (ix2 a k) = rowC (argU m c) (rowAt t a) k := fun a k => by
    rw [← read2 m c t a k]
    pointwise [k0_pay5]
  unfold rowBack rowAt
  dsimp only
  by_cases h : o + a.val < 8
  · refine (rows_lt _ _ _ (by omega) h k).trans ?_
    rw [halo_eq]
    by_cases h0 : t.val % 8 = 0
    · rw [if_pos h0, if_neg (by omega)]
    · rw [if_neg h0, if_pos (by omega)]
      refine (read3 m c t (by omega) _ k).trans ?_
      unfold rowC
      exact at_eq (argU m c) _ _ _ _ k (by dsimp only; omega) (by dsimp only; omega)
  · refine (rows_ge _ _ _ (by omega) h k).trans ?_
    rw [if_pos (by omega)]
    refine (hu _ k).trans ?_
    unfold rowC rowAt
    exact at_eq (argU m c) _ _ _ _ k (by dsimp only; omega) (by dsimp only; omega)

/-- The kernel's result array. -/
theorem final (c : Dev nD) : (dats m 0 c).arrAt 11 (cfgs 0).N
    = mixArr (argAttn m c) (argSa m c) (argSc m c) (argCb m c) (argU m c) (argX m c) (argW m c) (argWa m c) (argWc m c) (argWo m c) := by
  refine final11 m c _ fun t y => ?_
  rw [place t y]
  have hu : ∀ a k, k0_pay5 (F := Ideal) (iblk m c 2 t) (ix2 a k) = rowC (argU m c) (rowAt t a) k := fun a k => by
    rw [← read2 m c t a k]
    pointwise [k0_pay5]
  have hg : ∀ k, gatedBlock (k0_pay4 (grid0.coords t) (iblk m c 3 t)) (k0_pay5 (iblk m c 2 t)) (iblk m c 4 t) (iblk m c 1 t) (ix2 (y 0) k)
      = gated (rowC (argCb m c) (rowAt t (y 0))) (rowBack (argU m c) 2 (rowAt t (y 0))) (rowBack (argU m c) 1 (rowAt t (y 0)))
          (rowC (argU m c) (rowAt t (y 0))) (fun d k => argW m c (ix3 0 d k)) k := fun k =>
    congrFun (congr (congr (congr (congr (congrArg gated (funext fun k => read1 m c t (y 0) k))
      (funext fun k => back_eq m c t 6 (by norm_num) (y 0) k)) (funext fun k => back_eq m c t 7 (by norm_num) (y 0) k))
      (funext fun k => hu (y 0) k)) (funext fun d => funext fun k => read4 m c t d k)) k
  have hm : ∀ j, mergedBlock (X0_5 m c t) (X0_6 m c t) (iblk m c 0 t)
        (gatedBlock (k0_pay4 (grid0.coords t) (iblk m c 3 t)) (k0_pay5 (iblk m c 2 t)) (iblk m c 4 t) (iblk m c 1 t))
        (iblk m c 8 t) (iblk m c 9 t) (ix2 (y 0) j)
      = merged (row (argSa m c) (rowAt t (y 0))) (row (argSc m c) (rowAt t (y 0))) (rowC (argAttn m c) (rowAt t (y 0)))
          (gated (rowC (argCb m c) (rowAt t (y 0))) (rowBack (argU m c) 2 (rowAt t (y 0))) (rowBack (argU m c) 1 (rowAt t (y 0)))
            (rowC (argU m c) (rowAt t (y 0))) (fun d k => argW m c (ix3 0 d k)))
          (fun k j => argWa m c (ix3 0 k j)) (fun k j => argWc m c (ix3 0 k j)) j := fun j =>
    congrFun (congr (congr (congr (congr (congr (congrArg merged (funext fun k => read5 m c t (y 0) k))
      (funext fun k => read6 m c t (y 0) k)) (funext fun k => read0 m c t (y 0) k)) (funext hg))
      (funext fun k => funext fun j => read8 m c t k j)) (funext fun k => funext fun j => read9 m c t k j)) j
  exact congrFun (congr (congr (congrArg mix (funext fun k => read7 m c t (y 0) k)) (funext hm))
    (funext fun j => funext fun n => read10 m c t j n)) (y 1)

end Cert.Kernel4Ideal.Value

namespace Cert.Reference4Ideal.Value
open Cert.Reference4Ideal Cert.Reference4Ideal.Gen Idealize.ShloMosaic Idealize.ShloMosaic.TcCoe Idealize.SL.Sem

/-- The reference's composed term is the same function. -/
theorem ref_eq (attn : FVec Ideal S2x4096x1024 .f32) (sa sc : FVec Ideal S2x4096x2048 .f32) (cb u : FVec Ideal S2x4096x1024 .f32)
    (x : FVec Ideal S2x4096x2048 .f32) (wconv : FVec Ideal S1x3x1024 .f32) (wa wc : FVec Ideal S1x1024x2048 .f32)
    (wo : FVec Ideal S1x2048x2048 .f32) :
    (show FVec Ideal S8192x2048 .f32 from shapeCast _ (addf x (Host.dotGeneral dot_S2x4096x2048_S2048x2048_S2x4096x2048_2_0_01_1_n_n none (addf (mulf sa (Host.dotGeneral dot_S2x4096x1024_S1024x2048_S2x4096x2048_2_0_01_1_n_n none attn (shapeCast _ wa shapeCasts_S1x1024x2048_S1024x2048))) (mulf sc (Host.dotGeneral dot_S2x4096x1024_S1024x2048_S2x4096x2048_2_0_01_1_n_n none (mulf cb (addf (addf (mulf (broadcastInDim S2x4096x1024 ![0, 1, 2] bcast_S1x1x1024_S2x4096x1024_0_1_2 (broadcastInDim S1x1x1024 ![2] bcast_S1024_S1x1x1024_2 (shapeCast _ (extractStridedSlice S1x1024 ![0, 0] (shapeCast _ wconv shapeCasts_S1x3x1024_S3x1024) slices_S3x1024_S1x1024_0_0) shapeCasts_S1x1024_S1024))) (extractStridedSlice S2x4096x1024 ![0, 0, 0] (pad S2x4098x1024 ![0, 2, 0] ![0, 0, 0] ![0, 0, 0] u (sitofp .f32 (constantI S_ 32 0#32)) pads_S2x4096x1024_S2x4098x1024_000_200_000 h_S_) slices_S2x4098x1024_S2x4096x1024_0_0_0)) (mulf (broadcastInDim S2x4096x1024 ![0, 1, 2] bcast_S1x1x1024_S2x4096x1024_0_1_2 (broadcastInDim S1x1x1024 ![2] bcast_S1024_S1x1x1024_2 (shapeCast _ (extractStridedSlice S1x1024 ![1, 0] (shapeCast _ wconv shapeCasts_S1x3x1024_S3x1024) slices_S3x1024_S1x1024_1_0) shapeCasts_S1x1024_S1024))) (extractStridedSlice S2x4096x1024 ![0, 0, 0] (pad S2x4097x1024 ![0, 1, 0] ![0, 0, 0] ![0, 0, 0] u (sitofp .f32 (constantI S_ 32 0#32)) pads_S2x4096x1024_S2x4097x1024_000_100_000 h_S_) slices_S2x4097x1024_S2x4096x1024_0_0_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![2, 0] (shapeCast _ wconv shapeCasts_S1x3x1024_S3x1024) slices_S3x1024_S1x1024_2_0) shapeCasts_S1x1024_S1024))) u))) (shapeCast _ wc shapeCasts_S1x1024x2048_S1024x2048)))) (shapeCast _ wo shapeCasts_S1x2048x2048_S2048x2048))) shapeCasts_S2x4096x2048_S8192x2048)
      = Cert.Kernel4Ideal.Value.mixArr attn sa sc cb u x wconv wa wc wo := by
  funext i
  idx_vars i
  pointwise [Cert.Kernel4Ideal.Value.mixArr, Cert.Kernel4Ideal.Value.row, Cert.Kernel4Ideal.Value.rowC, Cert.Kernel4Ideal.Value.rowBack,
    Cert.Kernel4Ideal.Value.mix, Cert.Kernel4Ideal.Value.merged, Cert.Kernel4Ideal.Value.gated]
  have z : (FloatOps.sitofp FTy.f32 0#32 : Ideal .f32) = (0 : EReal) := by
    show (((0#32 : BitVec 32).toInt : ℝ) : EReal) = 0
    simp
  have e : ∀ d : ℕ, (i0.val / 4096 < 2 ∧ d ≤ i0.val % 4096 ∧ i0.val % 4096 - d < 4096) ↔ d ≤ i0.val % 4096 := fun d => by omega
  simp only [e, z, dite_eq_ite]
  rfl

end Cert.Reference4Ideal.Value
-- ==== Proof.InProjRun.lean ====
/- The input projection: one run of the kernel's body, in each of the six forms its branches give it. -/
module

public import proofs.«01_k».proof.Proof.Gen.Kernel5Ideal.Frame
public import proofs.«01_k».proof.Proof.Gen.Kernel5Ideal.Skeleton

@[expose] public section

set_option maxRecDepth 16384

noncomputable section

namespace Cert.Kernel5Ideal.Value

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch a point takes: a point of the grid is a row block and one of ten column steps -/

/-- The branch to normalise the rows is taken. -/
abbrev take0 (i : grid0.Coords) : Prop := (Scalar.cmpi .ne (Scalar.extui (Scalar.cmpi .eq (BitVec.ofNat 32 (i 1).val) 0#32)) 0#32) = 1#1
theorem take0_iff : ∀ t : Fin cfg0.N, take0 (grid0.coords t) ↔ t.val % 10 = 0 :=
  (by decide +kernel : ∀ t : Fin grid0.N, take0 (grid0.coords t) ↔ t.val % 10 = 0)

/-- The branch to store the queries is taken. -/
abbrev take1 (i : grid0.Coords) : Prop := k0_cond2 i = 1#1
theorem take1_iff : ∀ t : Fin cfg0.N, take1 (grid0.coords t) ↔ t.val % 10 = 0 :=
  (by decide +kernel : ∀ t : Fin grid0.N, take1 (grid0.coords t) ↔ t.val % 10 = 0)

/-- The branch to store the keys is taken. -/
abbrev take2 (i : grid0.Coords) : Prop := k0_cond3 i = 1#1
theorem take2_iff : ∀ t : Fin cfg0.N, take2 (grid0.coords t) ↔ t.val % 10 = 1 :=
  (by decide +kernel : ∀ t : Fin grid0.N, take2 (grid0.coords t) ↔ t.val % 10 = 1)

/-- The branch to store a plain column block is taken. -/
abbrev take3 (i : grid0.Coords) : Prop := k0_cond4 i = 1#1
theorem take3_iff : ∀ t : Fin cfg0.N, take3 (grid0.coords t) ↔ 2 ≤ t.val % 10 ∧ t.val % 10 ≤ 3 :=
  (by decide +kernel : ∀ t : Fin grid0.N, take3 (grid0.coords t) ↔ 2 ≤ t.val % 10 ∧ t.val % 10 ≤ 3)

/-- The branch to keep the gated factor is taken. -/
abbrev take4 (i : grid0.Coords) : Prop := (Scalar.cmpi .ne (Scalar.extui (Scalar.cmpi .eq (BitVec.ofNat 32 (i 1).val) 4#32)) 0#32) = 1#1
theorem take4_iff : ∀ t : Fin cfg0.N, take4 (grid0.coords t) ↔ t.val % 10 = 4 :=
  (by decide +kernel : ∀ t : Fin grid0.N, take4 (grid0.coords t) ↔ t.val % 10 = 4)

/-- The branch to store the product is taken. -/
abbrev take5 (i : grid0.Coords) : Prop := k0_cond6 i = 1#1
theorem take5_iff : ∀ t : Fin cfg0.N, take5 (grid0.coords t) ↔ t.val % 10 = 5 :=
  (by decide +kernel : ∀ t : Fin grid0.N, take5 (grid0.coords t) ↔ t.val % 10 = 5)

/-- The branch to store the gates is taken. -/
abbrev take6 (i : grid0.Coords) : Prop := k0_cond7 i = 1#1
theorem take6_iff : ∀ t : Fin cfg0.N, take6 (grid0.coords t) ↔ 6 ≤ t.val % 10 :=
  (by decide +kernel : ∀ t : Fin grid0.N, take6 (grid0.coords t) ↔ 6 ≤ t.val % 10)

/-! ## The runs -/

section

variable (c : Dev nD) (i : grid0.Coords)
  (a0 : Memref sig .tc .vmem S1024x512 .f32) (h0 : a0.IsWhole)
  (a1 : Memref sig .tc .vmem S1024x512 .f32) (h1 : a1.IsWhole)
  (a2 : Memref sig .tc .vmem S1024x512 .f32) (h2 : a2.IsWhole)
  (a3 : Memref sig .tc .vmem S1024x512 .f32) (h3 : a3.IsWhole)
  (a4 : Memref sig .tc .vmem S1x2048 .f32) (h4 : a4.IsWhole)
  (a5 : Memref sig .tc .vmem S1x128 .f32) (h5 : a5.IsWhole)
  (a6 : Memref sig .tc .vmem S1x128 .f32) (h6 : a6.IsWhole)
  (a7 : Memref sig .tc .vmem S2048x1024 .f32) (h7 : a7.IsWhole)
  (a8 : Memref sig .tc .vmem S1024x1024 .bf16) (h8 : a8.IsWhole)
  (a9 : Memref sig .tc .vmem S1024x2048 .bf16) (h9 : a9.IsWhole)
  (a10 : Memref sig .tc .vmem S1024x1024 .f32) (h10 : a10.IsWhole)
  (x0 : Vec F S1024x512 .f32) (x1 : Vec F S1024x512 .f32) (x2 : Vec F S1024x512 .f32) (x3 : Vec F S1024x512 .f32) (x4 : Vec F S1x2048 .f32) (x5 : Vec F S1x128 .f32) (x6 : Vec F S1x128 .f32) (x7 : Vec F S2048x1024 .f32)

set_option maxHeartbeats 1000000 in
/-- A row block's first step: the rows are normalised into the carried buffer and the queries are stored. The lists are what the run writes, last first. -/
def runA (b0 : take0 i) (b1 : take1 i) (b2 : ¬take2 i) (b3 : ¬take3 i) (b4 : ¬take4 i) (b5 : ¬take5 i) (b6 : ¬take6 i)  :
    Σ' (L : List (View.Piece (Elt F) S1024x1024 .bf16)), { LH : List (View.Piece (Elt F) S1024x2048 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ (∃ f, a9.view.loc (c : Thread nD τ) ↦[a9.view.set]{fullShare} a9.view.writes (Elt F) f LH) ∗ (∃ d, owns (c : Thread nD τ) a10 fullShare d)) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    isplitl [H9]
    · iexists _; iexact H9
    iexists _, _; isplitr; swap; · iexact H10
    ipureintro; rfl

set_option maxHeartbeats 1000000 in
/-- The second step: the keys are stored. The lists are what the run writes, last first. -/
def runB (b0 : ¬take0 i) (b1 : ¬take1 i) (b2 : take2 i) (b3 : ¬take3 i) (b4 : ¬take4 i) (b5 : ¬take5 i) (b6 : ¬take6 i) (xh : Vec F S1024x2048 .bf16) :
    { L : List (View.Piece (Elt F) S1024x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xh ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare xh ∗ (∃ d, owns (c : Thread nD τ) a10 fullShare d)) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    isplitl [H9]
    · iexists _; isplitr; · ipureintro; exact h9.read_unread _
      iexact H9
    iexists _, _; isplitr; swap; · iexact H10
    ipureintro; rfl

set_option maxHeartbeats 1000000 in
/-- The third and fourth steps: a plain column block is stored. The lists are what the run writes, last first. -/
def runC (b0 : ¬take0 i) (b1 : ¬take1 i) (b2 : ¬take2 i) (b3 : take3 i) (b4 : ¬take4 i) (b5 : ¬take5 i) (b6 : ¬take6 i) (xh : Vec F S1024x2048 .bf16) :
    { L : List (View.Piece (Elt F) S1024x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xh ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare xh ∗ (∃ d, owns (c : Thread nD τ) a10 fullShare d)) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    isplitl [H9]
    · iexists _; isplitr; · ipureintro; exact h9.read_unread _
      iexact H9
    iexists _, _; isplitr; swap; · iexact H10
    ipureintro; rfl

set_option maxHeartbeats 1000000 in
/-- The fifth step: a column block is kept for the next step; the result's block is left as it was found. The lists are what the run writes, last first. -/
def runD (b0 : ¬take0 i) (b1 : ¬take1 i) (b2 : ¬take2 i) (b3 : ¬take3 i) (b4 : take4 i) (b5 : ¬take5 i) (b6 : ¬take6 i) (y : Vec F S1024x1024 .bf16) (xh : Vec F S1024x2048 .bf16) :
    { L : List (View.Piece (Elt F) S1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y ∗ owns (c : Thread nD τ) a9 fullShare xh ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare y ∗ owns (c : Thread nD τ) a9 fullShare xh ∗ (∃ f, a10.view.loc (c : Thread nD τ) ↦[a10.view.set]{fullShare} a10.view.writes (Elt F) f L)) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    iexists _; iexact H10

set_option maxHeartbeats 1000000 in
/-- The sixth step: the product with the kept block is stored. The lists are what the run writes, last first. -/
def runE (b0 : ¬take0 i) (b1 : ¬take1 i) (b2 : ¬take2 i) (b3 : ¬take3 i) (b4 : ¬take4 i) (b5 : take5 i) (b6 : ¬take6 i) (xh : Vec F S1024x2048 .bf16) (xc : Vec F S1024x1024 .f32) :
    { L : List (View.Piece (Elt F) S1024x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xh ∗ owns (c : Thread nD τ) a10 fullShare xc
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare xh ∗ owns (c : Thread nD τ) a10 fullShare xc) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9; obtain rfl := h10.eq_unread hf10
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    isplitl [H9]
    · iexists _; isplitr; · ipureintro; exact h9.read_unread _
      iexact H9
    iexists _; isplitr; · ipureintro; exact h10.read_unread _
    iexact H10

set_option maxHeartbeats 1000000 in
/-- The last four steps: a block of gates is stored. The lists are what the run writes, last first. -/
def runF (b0 : ¬take0 i) (b1 : ¬take1 i) (b2 : ¬take2 i) (b3 : ¬take3 i) (b4 : ¬take4 i) (b5 : ¬take5 i) (b6 : take6 i) (xh : Vec F S1024x2048 .bf16) :
    { L : List (View.Piece (Elt F) S1024x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xh ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare xh ∗ (∃ d, owns (c : Thread nD τ) a10 fullShare d)) -∗ K ⟨⟩))
          ⊢ wp frame (wpE (defs₀ (F := F)) Variants.none c none) E (cc0_in_proj i a0 h0 a1 h1 a2 h2 a3 h3 a4 h4 a5 h5 a6 h6 a7 h7 a8 h8 a9 h9 a10 h10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
    sl_exec (disch := first | sl_exact b0 | sl_exact b1 | sl_exact b2 | sl_exact b3 | sl_exact b4 | sl_exact b5 | sl_exact b6)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; iexact H8
    isplitl [H9]
    · iexists _; isplitr; · ipureintro; exact h9.read_unread _
      iexact H9
    iexists _, _; isplitr; swap; · iexact H10
    ipureintro; rfl

end

end Cert.Kernel5Ideal.Value
-- ==== Proof.InProjFrame.lean ====
/- The input projection: what every grid point finds and leaves, and the run of the whole launch.
   A row block takes ten points. The first fills a carried buffer with the normalised rows, which the nine after it
   read; the fifth fills a second buffer with a factor, which the sixth multiplies by. -/
module

public import proofs.«01_k».proof.Proof.InProjRun
public import Idealize.ShloMosaic.Lib.Ring
public import Idealize.ShloMosaic.Lib.Claim

@[expose] public section

set_option maxRecDepth 16384

noncomputable section

namespace Cert.Kernel5Ideal.Value

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a point works on -/

abbrev stg0 (t : Fin cfg0.N) : Memref sig .tc .vmem S1024x512 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S1024x512 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1024x512 .f32 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1024x512 .f32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S1x2048 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S1x128 .f32 := win0_6.stage (cfg0.slots t 6)
abbrev stgW6 (t : Fin cfg0.N) : (stg6 t).IsWhole := hstage0_6 ((cfg0.slots t 6).cast nbuf0_6)
abbrev stg7 (t : Fin cfg0.N) : Memref sig .tc .vmem S2048x1024 .f32 := win0_7.stage (cfg0.slots t 7)
abbrev stgW7 (t : Fin cfg0.N) : (stg7 t).IsWhole := hstage0_7 ((cfg0.slots t 7).cast nbuf0_7)
abbrev stg8 (t : Fin cfg0.N) : Memref sig .tc .vmem S1024x1024 .bf16 := win0_8.stage (cfg0.slots t 8)
abbrev stgW8 (t : Fin cfg0.N) : (stg8 t).IsWhole := hstage0_8 ((cfg0.slots t 8).cast nbuf0_8)
/-- The buffer the normalised rows are carried in, -/
abbrev rowBuf : Memref sig .tc .vmem S1024x2048 .bf16 := Memref.whole cc0_scratch0
/-- and the one the product's first factor is. -/
abbrev facBuf : Memref sig .tc .vmem S1024x1024 .f32 := Memref.whole cc0_scratch1
abbrev outView : View sig .tc .vmem S1024x1024 .bf16 := (Memref.whole cc0_stg8_0 : Memref sig .tc .vmem S1024x1024 .bf16).view

/-- What a list of pieces covering the result's block puts there, -/
def outOf (L : List (View.Piece (Elt F) S1024x1024 .bf16)) : Vec F S1024x1024 .bf16 :=
  outView.read (Elt F) (outView.writes (Elt F) outView.junk L)
/-- one covering the rows' buffer, -/
def rowOf (L : List (View.Piece (Elt F) S1024x2048 .bf16)) : Vec F S1024x2048 .bf16 :=
  rowBuf.view.read (Elt F) (rowBuf.view.writes (Elt F) rowBuf.view.junk L)
/-- one covering the factor's. -/
def facOf (L : List (View.Piece (Elt F) S1024x1024 .f32)) : Vec F S1024x1024 .f32 :=
  facBuf.view.read (Elt F) (facBuf.view.writes (Elt F) facBuf.view.junk L)

/-! ## The runs at a point -/

theorem rowW : rowBuf.IsWhole := (Memref.isWhole_whole _)
theorem facW : facBuf.IsWhole := (Memref.isWhole_whole _)

def atA (c : Dev nD) (t : Fin cfg0.N) (r : t.val % 10 = 0) :=
  runA c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    ((take0_iff t).mpr r) ((take1_iff t).mpr r) (fun h => by have := (take2_iff t).mp h; omega) (fun h => by have := (take3_iff t).mp h; omega) (fun h => by have := (take4_iff t).mp h; omega) (fun h => by have := (take5_iff t).mp h; omega) (fun h => by have := (take6_iff t).mp h; omega)
def atB (c : Dev nD) (t : Fin cfg0.N) (r : t.val % 10 = 1) (xh : Vec F S1024x2048 .bf16) :=
  runB c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    (fun h => by have := (take0_iff t).mp h; omega) (fun h => by have := (take1_iff t).mp h; omega) ((take2_iff t).mpr r) (fun h => by have := (take3_iff t).mp h; omega) (fun h => by have := (take4_iff t).mp h; omega) (fun h => by have := (take5_iff t).mp h; omega) (fun h => by have := (take6_iff t).mp h; omega) xh
def atC (c : Dev nD) (t : Fin cfg0.N) (r : 2 ≤ t.val % 10 ∧ t.val % 10 ≤ 3) (xh : Vec F S1024x2048 .bf16) :=
  runC c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    (fun h => by have := (take0_iff t).mp h; omega) (fun h => by have := (take1_iff t).mp h; omega) (fun h => by have := (take2_iff t).mp h; omega) ((take3_iff t).mpr r) (fun h => by have := (take4_iff t).mp h; omega) (fun h => by have := (take5_iff t).mp h; omega) (fun h => by have := (take6_iff t).mp h; omega) xh
def atD (c : Dev nD) (t : Fin cfg0.N) (r : t.val % 10 = 4) (y : Vec F S1024x1024 .bf16) (xh : Vec F S1024x2048 .bf16) :=
  runD c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    (fun h => by have := (take0_iff t).mp h; omega) (fun h => by have := (take1_iff t).mp h; omega) (fun h => by have := (take2_iff t).mp h; omega) (fun h => by have := (take3_iff t).mp h; omega) ((take4_iff t).mpr r) (fun h => by have := (take5_iff t).mp h; omega) (fun h => by have := (take6_iff t).mp h; omega) y xh
def atE (c : Dev nD) (t : Fin cfg0.N) (r : t.val % 10 = 5) (xh : Vec F S1024x2048 .bf16) (xc : Vec F S1024x1024 .f32) :=
  runE c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    (fun h => by have := (take0_iff t).mp h; omega) (fun h => by have := (take1_iff t).mp h; omega) (fun h => by have := (take2_iff t).mp h; omega) (fun h => by have := (take3_iff t).mp h; omega) (fun h => by have := (take4_iff t).mp h; omega) ((take5_iff t).mpr r) (fun h => by have := (take6_iff t).mp h; omega) xh xc
def atF (c : Dev nD) (t : Fin cfg0.N) (r : 6 ≤ t.val % 10) (xh : Vec F S1024x2048 .bf16) :=
  runF c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) rowBuf rowW facBuf facW (iblk m c 0 t) (iblk m c 1 t) (iblk m c 2 t) (iblk m c 3 t) (iblk m c 4 t) (iblk m c 5 t) (iblk m c 6 t) (iblk m c 7 t)
    (fun h => by have := (take0_iff t).mp h; omega) (fun h => by have := (take1_iff t).mp h; omega) (fun h => by have := (take2_iff t).mp h; omega) (fun h => by have := (take3_iff t).mp h; omega) (fun h => by have := (take4_iff t).mp h; omega) (fun h => by have := (take5_iff t).mp h; omega) ((take6_iff t).mpr r) xh
theorem outA_cover (c : Dev nD) (t : Fin cfg0.N) (r : t.val % 10 = 0) (y : S1024x1024.Idx) : ∃ p ∈ (atA m c t r).1, y ∈ p.1.set :=
  View.cover_of_tiledBy (atA m c t r).1 ![1024, 128] (by sl_kernel_rfl) y
theorem outB_cover (c : Dev nD) (t : Fin cfg0.N) (r : t.val % 10 = 1) (xh : Vec F S1024x2048 .bf16) (y : S1024x1024.Idx) : ∃ p ∈ (atB m c t r xh).1, y ∈ p.1.set :=
  View.cover_of_tiledBy (atB m c t r xh).1 ![1024, 128] (by sl_kernel_rfl) y
theorem outC_cover (c : Dev nD) (t : Fin cfg0.N) (r : 2 ≤ t.val % 10 ∧ t.val % 10 ≤ 3) (xh : Vec F S1024x2048 .bf16) (y : S1024x1024.Idx) : ∃ p ∈ (atC m c t r xh).1, y ∈ p.1.set :=
  View.cover_of_tiledBy (atC m c t r xh).1 ![1024, 256] (by sl_kernel_rfl) y
theorem outE_cover (c : Dev nD) (t : Fin cfg0.N) (r : t.val % 10 = 5) (xh : Vec F S1024x2048 .bf16) (xc : Vec F S1024x1024 .f32) (y : S1024x1024.Idx) : ∃ p ∈ (atE m c t r xh xc).1, y ∈ p.1.set :=
  View.cover_of_tiledBy (atE m c t r xh xc).1 ![1024, 256] (by sl_kernel_rfl) y
theorem outF_cover (c : Dev nD) (t : Fin cfg0.N) (r : 6 ≤ t.val % 10) (xh : Vec F S1024x2048 .bf16) (y : S1024x1024.Idx) : ∃ p ∈ (atF m c t r xh).1, y ∈ p.1.set :=
  View.cover_of_tiledBy (atF m c t r xh).1 ![1024, 256] (by sl_kernel_rfl) y
theorem row_cover (c : Dev nD) (t : Fin cfg0.N) (r : t.val % 10 = 0) (y : S1024x2048.Idx) : ∃ p ∈ (atA m c t r).2.1, y ∈ p.1.set :=
  View.cover_of_tiledBy (atA m c t r).2.1 ![1024, 512] (by sl_kernel_rfl) y
theorem fac_cover (c : Dev nD) (t : Fin cfg0.N) (r : t.val % 10 = 4) (y : Vec F S1024x1024 .bf16) (xh : Vec F S1024x2048 .bf16) (z : S1024x1024.Idx) : ∃ p ∈ (atD m c t r y xh).1, z ∈ p.1.set :=
  View.cover_of_tiledBy (atD m c t r y xh).1 ![1024, 256] (by sl_kernel_rfl) z

/-! ## What each point leaves -/

/-- The point before. -/
abbrev prev (t : Fin cfg0.N) : Fin cfg0.N := ⟨t.val - 1, Nat.lt_of_le_of_lt (Nat.sub_le _ _) t.isLt⟩
/-- The first point of a point's row block. -/
abbrev first (t : Fin cfg0.N) : Fin cfg0.N := ⟨t.val / 10 * 10, Nat.lt_of_le_of_lt (Nat.div_mul_le_self _ _) t.isLt⟩
theorem first_mod (t : Fin cfg0.N) : (first t).val % 10 = 0 := Nat.mul_mod_left _ _

/-- The normalised rows of a point's row block. -/
def rowAt (c : Dev nD) (t : Fin cfg0.N) : Vec F S1024x2048 .bf16 := rowOf (atA m c (first t) (first_mod t)).2.1
theorem rowOf_congr (c : Dev nD) (s t : Fin cfg0.N) (e : s = t) (rs : s.val % 10 = 0) (rt : t.val % 10 = 0) :
    rowOf (atA m c s rs).2.1 = rowOf (atA m c t rt).2.1 := by subst e; rfl
theorem rowAt_first (c : Dev nD) (t : Fin cfg0.N) (r : t.val % 10 = 0) : rowAt m c t = rowOf (atA m c t r).2.1 :=
  rowOf_congr m c _ _ (Fin.ext (by show t.val / 10 * 10 = t.val; omega)) _ _
theorem rowAt_prev (c : Dev nD) (t : Fin cfg0.N) (r : t.val % 10 ≠ 0) : rowAt m c (prev t) = rowAt m c t :=
  rowOf_congr m c _ _ (Fin.ext (by show (t.val - 1) / 10 * 10 = t.val / 10 * 10; omega)) _ _

/-- The plain column block before the kept one: what the result's block still holds at the fifth step. -/
theorem prev_plain {t : Fin cfg0.N} (r : t.val % 10 = 4) : 2 ≤ (prev t).val % 10 ∧ (prev t).val % 10 ≤ 3 := by
  show 2 ≤ (t.val - 1) % 10 ∧ (t.val - 1) % 10 ≤ 3; omega
def plainAt (c : Dev nD) (t : Fin cfg0.N) (r : 2 ≤ t.val % 10 ∧ t.val % 10 ≤ 3) : Vec F S1024x1024 .bf16 :=
  outOf (atC m c t r (rowAt m c t)).1
/-- The kept factor, after the fifth step. -/
def facAt (c : Dev nD) (t : Fin cfg0.N) (r : t.val % 10 = 4) : Vec F S1024x1024 .f32 :=
  facOf (atD m c t r (plainAt m c (prev t) (prev_plain r)) (rowAt m c t)).1
theorem prev_kept {t : Fin cfg0.N} (r : t.val % 10 = 5) : (prev t).val % 10 = 4 := by
  show (t.val - 1) % 10 = 4; omega

/-- What the result's buffer holds after a point. -/
def outAt (c : Dev nD) (t : Fin cfg0.N) : Vec F S1024x1024 .bf16 :=
  if r : t.val % 10 = 0 then outOf (atA m c t r).1
  else if r : t.val % 10 = 1 then outOf (atB m c t r (rowAt m c t)).1
  else if r : 2 ≤ t.val % 10 ∧ t.val % 10 ≤ 3 then plainAt m c t r
  else if r : t.val % 10 = 4 then plainAt m c (prev t) (prev_plain r)
  else if r : t.val % 10 = 5 then outOf (atE m c t r (rowAt m c t) (facAt m c (prev t) (prev_kept r))).1
  else outOf (atF m c t (by omega) (rowAt m c t)).1
theorem outAt_A (c : Dev nD) (t : Fin cfg0.N) (r : t.val % 10 = 0) : outAt m c t = outOf (atA m c t r).1 := by
  unfold outAt; rw [dif_pos r]
theorem outAt_B (c : Dev nD) (t : Fin cfg0.N) (r : t.val % 10 = 1) : outAt m c t = outOf (atB m c t r (rowAt m c t)).1 := by
  unfold outAt; rw [dif_neg (by omega)]; rw [dif_pos r]
theorem outAt_C (c : Dev nD) (t : Fin cfg0.N) (r : 2 ≤ t.val % 10 ∧ t.val % 10 ≤ 3) : outAt m c t = outOf (atC m c t r (rowAt m c t)).1 := by
  unfold outAt; rw [dif_neg (by omega)]; rw [dif_neg (by omega)]; rw [dif_pos r]; rfl
theorem outAt_D (c : Dev nD) (t : Fin cfg0.N) (r : t.val % 10 = 4) : outAt m c t = plainAt m c (prev t) (prev_plain r) := by
  unfold outAt; rw [dif_neg (by omega)]; rw [dif_neg (by omega)]; rw [dif_neg (by omega)]; rw [dif_pos r]
theorem outAt_E (c : Dev nD) (t : Fin cfg0.N) (r : t.val % 10 = 5) : outAt m c t = outOf (atE m c t r (rowAt m c t) (facAt m c (prev t) (prev_kept r))).1 := by
  unfold outAt; rw [dif_neg (by omega)]; rw [dif_neg (by omega)]; rw [dif_neg (by omega)]; rw [dif_neg (by omega)]; rw [dif_pos r]
theorem outAt_F (c : Dev nD) (t : Fin cfg0.N) (r : 6 ≤ t.val % 10) : outAt m c t = outOf (atF m c t r (rowAt m c t)).1 := by
  unfold outAt; rw [dif_neg (by omega)]; rw [dif_neg (by omega)]; rw [dif_neg (by omega)]; rw [dif_neg (by omega)]; rw [dif_neg (by omega)]

/-- The factor's buffer after a point: the kept factor after the fifth step, anything after another. -/
def facInv (c : Dev nD) (t : Fin cfg0.N) : sProp 𝕄 :=
  if r : t.val % 10 = 4 then owns (c : Thread nD τ) facBuf fullShare (facAt m c t r)
  else iprop(∃ d, owns (c : Thread nD τ) facBuf fullShare d)
theorem facInv_kept (c : Dev nD) (t : Fin cfg0.N) (r : t.val % 10 = 4) :
    facInv m c t = owns (c : Thread nD τ) facBuf fullShare (facAt m c t r) := dif_pos r
theorem facInv_else (c : Dev nD) (t : Fin cfg0.N) (r : t.val % 10 ≠ 4) :
    facInv m c t = iprop(∃ d, owns (c : Thread nD τ) facBuf fullShare d) := dif_neg r
theorem facInv_any (c : Dev nD) (t : Fin cfg0.N) :
    facInv m c t ⊢ iprop(∃ d, owns (c : Thread nD τ) facBuf fullShare d) := by
  by_cases r : t.val % 10 = 4
  · rw [facInv_kept m c t r]; iintro H; iexists _; iexact H
  · rw [facInv_else m c t r]

/-- The carried buffers before point `n`. -/
def carried (c : Dev nD) : (n : ℕ) → n ≤ cfg0.N → sProp 𝕄
  | 0, _ => Pipeline.ΦA spec0 c
  | n + 1, h => iprop((owns (c : Thread nD τ) rowBuf fullShare (rowAt m c ⟨n, h⟩) ∗ facInv m c ⟨n, h⟩) ∗ (∃ r, prngReg c r))
theorem launched_eq (c : Dev nD) :
    (Pipeline.ΦA spec0 c : sProp 𝕄)
      = iprop(iprop((∃ d, owns (c : Thread nD τ) rowBuf fullShare d) ∗ (∃ d, owns (c : Thread nD τ) facBuf fullShare d)) ∗ (∃ r, prngReg c r)) := by
  unfold Pipeline.ΦA; rw [scopedRest0_eq]; simp only [rowBuf, facBuf, owns_whole]; try rfl
theorem carried_succ (c : Dev nD) (t : Fin cfg0.N) :
    carried m c (t.val + 1) t.isLt = iprop((owns (c : Thread nD τ) rowBuf fullShare (rowAt m c t) ∗ facInv m c t) ∗ (∃ r, prngReg c r)) := rfl
theorem carried_pos (c : Dev nD) (n : ℕ) (h : n ≤ cfg0.N) (hz : n ≠ 0) :
    carried m c n h = iprop((owns (c : Thread nD τ) rowBuf fullShare (rowAt m c ⟨n - 1, by omega⟩) ∗ facInv m c ⟨n - 1, by omega⟩) ∗ (∃ r, prngReg c r)) := by
  cases n with
  | zero => exact absurd rfl hz
  | succ n => rfl
theorem carried_any (c : Dev nD) (n : ℕ) (h : n ≤ cfg0.N) : carried m c n h ⊢ Pipeline.ΦA spec0 c := by
  by_cases hz : n = 0
  · subst hz; exact .rfl
  · rw [carried_pos m c n h hz, launched_eq]
    iintro ⟨⟨HR, HF⟩, Hg⟩
    isplitl [HR HF]
    · isplitl [HR]
      · iexists _; iexact HR
      iapply (facInv_any m c _); iexact HF
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem carried_castSucc (c : Dev nD) (t : Fin cfg0.N) :
    (dats m 0 c).Φ t.castSucc = carried m c t.val (Nat.le_of_lt t.isLt) := by
  dsimp only [dats]; exact Pipeline.Dat.Φ_castSucc (carried m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a fifth step the result's buffer still holds the column block before: it is not written back between. -/
theorem noflush : ∀ t : Fin cfg0.N, t.val % 10 = 4 → (cfg0.win 8).flush (prev t) = false :=
  (by decide +kernel : ∀ t : Fin grid0.N, t.val % 10 = 4 → win0_8.flush (prev t) = false)
/-- Every step but the fifth writes the result's buffer, -/
theorem live8 : ∀ t : Fin cfg0.N, t.val % 10 ≠ 4 → cfg0.idle 8 (cfg0.grid.coords t) = false :=
  (by decide +kernel : ∀ t : Fin grid0.N, t.val % 10 ≠ 4 → idle0 8 (grid0.coords t) = false)
/-- and the fifth writes back what it found. -/
theorem flush_kept : ∀ t : Fin cfg0.N, t.val % 10 = 4 → (cfg0.win 8).flush t = true :=
  (by decide +kernel : ∀ t : Fin grid0.N, t.val % 10 = 4 → win0_8.flush t = true)
theorem leaves8 (c : Dev nD) (t : Fin cfg0.N) :
    (dats m 0 c).leavesExact 8 t = owns (c : Thread nD τ) (stg8 t) fullShare (outAt m c t) := by
  rw [← after0_8]; unfold Dat.leavesExact
  by_cases r : t.val % 10 = 4
  · rw [flush_kept t r]; cases cfg0.idle 8 (cfg0.grid.coords t) <;> rfl
  · rw [live8 t r]
theorem before0_8 (c : Dev nD) (t : Fin cfg0.N) (r : t.val % 10 = 4) (d) :
    (dats m 0 c).before 8 t d = plainAt m c (prev t) (prev_plain r) := by
  rw [(dats m 0 c).before_of_pos 8 t (by omega) ((cfg0.win 8).fetch_out rfl t), noflush t r, if_neg Bool.false_ne_true]
  unfold Dat.left; rw [live8 (prev t) (by have := prev_plain r; omega)]; dsimp only; unfold Dat.kept
  rw [Pipeline.fill_of_clip_none 8 _ (fun _ => rfl) d ((dats m 0 c).after 8 _), Window.fill_cut, after0_8]
  exact outAt_C m c (prev t) (prev_plain r)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ (dats m 0 c).leavesExact 8 t)

set_option maxHeartbeats 3200000 in
/-- The body takes every point's state to the next: its run in the form the point's step takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, leaves8]
  rw [show (dats m 0 c).Φ t.succ = carried m c (t.val + 1) t.isLt from rfl, carried_succ, carried_castSucc]
  have hN : t.val < 80 := lt_of_lt_of_eq t.isLt (show cfg0.N = 80 from N_0)
  rcases (by omega : t.val % 10 = 0 ∨ t.val % 10 = 1 ∨ (2 ≤ t.val % 10 ∧ t.val % 10 ≤ 3) ∨ t.val % 10 = 4 ∨ t.val % 10 = 5 ∨ 6 ≤ t.val % 10) with r | r | r | r | r | r
  · refine (sep_mono_left (carried_any m c _ _)).trans ?_
    rw [launched_eq, outAt_A m c t r, rowAt_first m c t r, facInv_else m c t (by omega)]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t r).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HR]; · iexact HR
    isplitl [HF]; · iexact HF
    iintro ⟨H0, H1, H2, H3, H4, H5, H6, H7, ⟨%e8, H8⟩, ⟨%eR, HR⟩, HF⟩
    isplitl [HR HF Hg]
    · isplitl [HR HF]
      · isplitl [HR]
        · unfold owns; iexists _; isplitr; swap; · iexact HR
          ipureintro; exact View.read_writes_of_cover _ _ _ _ _ (row_cover m c t r)
        iexact HF
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact View.read_writes_of_cover _ _ _ _ _ (outA_cover m c t r)
  · rw [carried_pos m c _ _ (by omega), outAt_B m c t r, rowAt_prev m c t (by omega), facInv_else m c t (by omega)]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atB m c t r _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HR]; · iexact HR
    isplitl [HF]; · iapply (facInv_any m c _); iexact HF
    iintro ⟨H0, H1, H2, H3, H4, H5, H6, H7, ⟨%e8, H8⟩, HR, HF⟩
    isplitl [HR HF Hg]
    · isplitl [HR HF]
      · isplitl [HR]
        · iexact HR
        iexact HF
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact View.read_writes_of_cover _ _ _ _ _ (outB_cover m c t r _)
  · rw [carried_pos m c _ _ (by omega), outAt_C m c t r, rowAt_prev m c t (by omega), facInv_else m c t (by omega)]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atC m c t r _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HR]; · iexact HR
    isplitl [HF]; · iapply (facInv_any m c _); iexact HF
    iintro ⟨H0, H1, H2, H3, H4, H5, H6, H7, ⟨%e8, H8⟩, HR, HF⟩
    isplitl [HR HF Hg]
    · isplitl [HR HF]
      · isplitl [HR]
        · iexact HR
        iexact HF
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact View.read_writes_of_cover _ _ _ _ _ (outC_cover m c t r _)
  · rw [carried_pos m c _ _ (by omega), outAt_D m c t r, rowAt_prev m c t (by omega), facInv_kept m c t r]
    rw [show facAt m c t r = facOf (atD m c t r (plainAt m c (prev t) (prev_plain r)) (rowAt m c t)).1 from rfl]
    simp only [before0_8 m c t r]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atD m c t r _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HR]; · iexact HR
    isplitl [HF]; · iapply (facInv_any m c _); iexact HF
    iintro ⟨H0, H1, H2, H3, H4, H5, H6, H7, H8, HR, ⟨%eF, HF⟩⟩
    isplitl [HR HF Hg]
    · isplitl [HR HF]
      · isplitl [HR]
        · iexact HR
        unfold owns; iexists _; isplitr; swap; · iexact HF
        ipureintro; exact View.read_writes_of_cover _ _ _ _ _ (fac_cover m c t r (plainAt m c (prev t) (prev_plain r)) (rowAt m c t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [carried_pos m c _ _ (by omega), outAt_E m c t r, rowAt_prev m c t (by omega), facInv_else m c t (by omega), facInv_kept m c (prev t) (prev_kept r)]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atE m c t r _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HR]; · iexact HR
    isplitl [HF]; · iexact HF
    iintro ⟨H0, H1, H2, H3, H4, H5, H6, H7, ⟨%e8, H8⟩, HR, HF⟩
    isplitl [HR HF Hg]
    · isplitl [HR HF]
      · isplitl [HR]
        · iexact HR
        iexists _; iexact HF
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact View.read_writes_of_cover _ _ _ _ _ (outE_cover m c t r _ _)
  · rw [carried_pos m c _ _ (by omega), outAt_F m c t r, rowAt_prev m c t (by omega), facInv_else m c t (by omega)]
    iintro ⟨⟨⟨HR, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atF m c t r _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HR]; · iexact HR
    isplitl [HF]; · iapply (facInv_any m c _); iexact HF
    iintro ⟨H0, H1, H2, H3, H4, H5, H6, H7, ⟨%e8, H8⟩, HR, HF⟩
    isplitl [HR HF Hg]
    · isplitl [HR HF]
      · isplitl [HR]
        · iexact HR
        iexact HF
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact View.read_writes_of_cover _ _ _ _ _ (outF_cover m c t r _)

/-- The body table's row at a point is the body at its buffers. -/
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = carried m c 0 (Nat.zero_le _) from rfl]
  exact Idealize.SL.BI.Entails.refl _
theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl]
  exact carried_any m c _ _

set_option backward.isDefEq.respectTransparency.types false in
/-- Every run of the program ends, with every array of the pipeline at what the points leave and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The arguments end as they were launched. -/
theorem unchanged : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.Value
-- ==== Proof.InProj.lean ====
/- The input projection: what one block of 1024 rows and 1024 columns computes, for each of the six kinds of columns. -/
module

public import proofs.«01_k».proof.Proof.InProjFrame
public import proofs.«01_k».proof.Proof.Rms
public import Idealize.ShloMosaic.Lib.Pipeline.ValueKit
public import Idealize.ShloMosaic.Lib.Pipeline.ReadBack

@[expose] public section

set_option maxRecDepth 16384

noncomputable section

namespace Cert.Kernel5Ideal.Value
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

/-- One row's entry of the projection by a block of 1024 columns of the weights. -/
def projBlock (h : Vec Ideal S1024x2048 .bf16) (w : Vec Ideal S2048x1024 .f32) (a n : Fin 1024) : EReal :=
  ∑ k, h (ix2 a k) * w (ix2 k n)

/-- Entry `d` of a head of 128 numbers, divided by the root of its mean square (plus the small constant), times the gain. -/
def headNorm (a g : Fin 128 → EReal) (d : Fin 128) : EReal :=
  a d * Ideal.rsqrt (Ideal.div (∑ l, a l * a l) (Ideal.ofBits .f32 0x43000000#32) + Ideal.ofBits .f32 0x358637BD#32) * g d

/-- A block of eight normalised heads. -/
def headsBlock (g : Fin 128 → EReal) (h : Vec Ideal S1024x2048 .bf16) (w : Vec Ideal S2048x1024 .f32) : Vec Ideal S1024x1024 .bf16 := fun y =>
  headNorm (fun d => projBlock h w (y 0) ⟨(y 1).val / 128 * 128 + d.val, by have : (y 1).val < 1024 := (y 1).isLt; omega⟩) g
    ⟨(y 1).val % 128, Nat.mod_lt _ (by norm_num)⟩

/-- The place in a block of 1024 columns of entry `z` of the tile of `n` columns that begins at column `o`. -/
theorem emb_tile (o n : Nat) (h : ∀ a, (![0, o] : Fin 2 → Nat) a + (![1024, n] : Fin 2 → Nat) a ≤ S1024x1024.size a)
    (ho : o + n ≤ 1024) (z : (⟨2, ![1024, n]⟩ : Shape).Idx) :
    (Rect.unit (s := S1024x1024) ![0, o] ![1024, n] h).emb z
      = ix2 (z 0) ⟨o + (z 1).val, lt_of_lt_of_le (Nat.add_lt_add_left (z 1).isLt o) ho⟩ := by
  funext a
  match a with
  | ⟨0, _⟩ => exact Fin.ext (by show 0 + 1 * (z 0).val = (z 0).val; omega)
  | ⟨1, _⟩ => exact Fin.ext (by show o + 1 * (z 1).val = o + (z 1).val; omega)

/-- The place in a block of 2048 columns of entry `z` of the tile of 512 columns that begins at column `o`. -/
theorem emb_part (o : Nat) (h : ∀ a, (![0, o] : Fin 2 → Nat) a + (![1024, 512] : Fin 2 → Nat) a ≤ S1024x2048.size a)
    (ho : o + 512 ≤ 2048) (z : S1024x512.Idx) :
    (Rect.unit (s := S1024x2048) ![0, o] ![1024, 512] h).emb z
      = ix2 (z 0) ⟨o + (z 1).val, lt_of_lt_of_le (Nat.add_lt_add_left (z 1).isLt o) ho⟩ := by
  funext a
  match a with
  | ⟨0, _⟩ => exact Fin.ext (by show 0 + 1 * (z 0).val = (z 0).val; omega)
  | ⟨1, _⟩ => exact Fin.ext (by show o + 1 * (z 1).val = o + (z 1).val; omega)

/-- The entries of the head that begins at column `o`. -/
theorem heads_at (g : Fin 128 → EReal) (h : Vec Ideal S1024x2048 .bf16) (w : Vec Ideal S2048x1024 .f32) (o : ℕ) (ho : o + 128 ≤ 1024)
    (h0 : o % 128 = 0) (a : Fin 1024) (d : Fin 128) (hd : o + d.val < 1024) :
    headsBlock g h w (ix2 a ⟨o + d.val, hd⟩) = headNorm (fun e => projBlock h w a ⟨o + e.val, by omega⟩) g d := by
  have h1 : ∀ e : ℕ, (o + d.val) / 128 * 128 + e = o + e := fun e => by omega
  have h2 : (o + d.val) % 128 = d.val := by omega
  show headNorm (fun e => projBlock h w a ⟨(o + d.val) / 128 * 128 + e.val, _⟩) g ⟨(o + d.val) % 128, _⟩ = _
  simp only [h1, h2]

/-- The same by the entry's place in its tile. -/
theorem heads_tile (g : Fin 128 → EReal) (h : Vec Ideal S1024x2048 .bf16) (w : Vec Ideal S2048x1024 .f32) (o : ℕ)
    (hr : ∀ a, (![0, o] : Fin 2 → Nat) a + (![1024, 128] : Fin 2 → Nat) a ≤ S1024x1024.size a) (ho : o + 128 ≤ 1024)
    (h0 : o % 128 = 0) (z : S1024x128.Idx) :
    headsBlock g h w ((Rect.unit (s := S1024x1024) ![0, o] ![1024, 128] hr).emb z)
      = headNorm (fun e => projBlock h w (z 0) ⟨o + e.val, by omega⟩) g (z 1) := by
  rw [emb_tile o 128 hr ho z]
  exact heads_at g h w o ho h0 (z 0) (z 1) _

/-! ## The columns taken as they are, the factor, the product and the gates -/

/-- Columns taken as they are. -/
theorem plain_eq (h : Vec Ideal S1024x2048 .bf16) (w : Vec Ideal S2048x1024 .f32) (y : S1024x1024.Idx) :
    View.canon (Val := Elt Ideal) (e := .bf16) [⟨Rect.unit ![0, 768] ![1024, 256] inb_S1024x1024_S1024x256_0_768, k0_pay7 h (View.ld w (Rect.unit ![0, 768] ![2048, 256] inb_S2048x1024_S2048x256_0_768))⟩,
        ⟨Rect.unit ![0, 0] ![1024, 768] inb_S1024x1024_S1024x768_0_0, k0_pay6 h (View.ld w (Rect.unit ![0, 0] ![2048, 768] inb_S2048x1024_S2048x768_0_0))⟩] y
      = projBlock h w (y 0) (y 1) := by
  refine View.canon_apply_of_pieces (show Vec Ideal S1024x1024 .bf16 from fun y => projBlock h w (y 0) (y 1)) _ (View.PiecesOf.mem (?_ : View.PiecesOf _ _)) y (View.cover_of_tiledBy _ ![1024, 256] (by sl_kernel_rfl) y)
  refine ⟨?_, ?_, trivial⟩
  all_goals
    intro z
    dsimp only
    rw [emb_tile _ _ _ (by norm_num)]
    pointwise [k0_pay6, k0_pay7, projBlock]

/-- Columns kept for the next point. -/
theorem fac_eq (h : Vec Ideal S1024x2048 .bf16) (w : Vec Ideal S2048x1024 .f32) (y : S1024x1024.Idx) :
    View.canon (Val := Elt Ideal) (e := .f32) [⟨Rect.unit ![0, 768] ![1024, 256] inb_S1024x1024_S1024x256_0_768, k0_pay9 h (View.ld w (Rect.unit ![0, 768] ![2048, 256] inb_S2048x1024_S2048x256_0_768))⟩,
        ⟨Rect.unit ![0, 0] ![1024, 768] inb_S1024x1024_S1024x768_0_0, k0_pay8 h (View.ld w (Rect.unit ![0, 0] ![2048, 768] inb_S2048x1024_S2048x768_0_0))⟩] y
      = projBlock h w (y 0) (y 1) := by
  refine View.canon_apply_of_pieces (show Vec Ideal S1024x1024 .f32 from fun y => projBlock h w (y 0) (y 1)) _ (View.PiecesOf.mem (?_ : View.PiecesOf _ _)) y (View.cover_of_tiledBy _ ![1024, 256] (by sl_kernel_rfl) y)
  refine ⟨?_, ?_, trivial⟩
  all_goals
    intro z
    dsimp only
    rw [emb_tile _ _ _ (by norm_num)]
    pointwise [k0_pay8, k0_pay9, projBlock]

/-- Columns multiplied by the kept ones. -/
theorem prod_eq (h : Vec Ideal S1024x2048 .bf16) (w : Vec Ideal S2048x1024 .f32) (xc : Vec Ideal S1024x1024 .f32) (y : S1024x1024.Idx) :
    View.canon (Val := Elt Ideal) (e := .bf16) [⟨Rect.unit ![0, 768] ![1024, 256] inb_S1024x1024_S1024x256_0_768, k0_pay11 h (View.ld w (Rect.unit ![0, 768] ![2048, 256] inb_S2048x1024_S2048x256_0_768)) (View.ld xc (Rect.unit ![0, 768] ![1024, 256] inb_S1024x1024_S1024x256_0_768))⟩,
        ⟨Rect.unit ![0, 0] ![1024, 768] inb_S1024x1024_S1024x768_0_0, k0_pay10 h (View.ld w (Rect.unit ![0, 0] ![2048, 768] inb_S2048x1024_S2048x768_0_0)) (View.ld xc (Rect.unit ![0, 0] ![1024, 768] inb_S1024x1024_S1024x768_0_0))⟩] y
      = xc y * projBlock h w (y 0) (y 1) := by
  refine View.canon_apply_of_pieces (show Vec Ideal S1024x1024 .bf16 from fun y => xc y * projBlock h w (y 0) (y 1)) _ (View.PiecesOf.mem (?_ : View.PiecesOf _ _)) y (View.cover_of_tiledBy _ ![1024, 256] (by sl_kernel_rfl) y)
  refine ⟨?_, ?_, trivial⟩
  all_goals
    intro z
    dsimp only
    rw [emb_tile _ _ _ (by norm_num)]
    pointwise [k0_pay10, k0_pay11, projBlock]

/-- Gates: the logistic function of the columns. -/
theorem gate_eq (h : Vec Ideal S1024x2048 .bf16) (w : Vec Ideal S2048x1024 .f32) (y : S1024x1024.Idx) :
    View.canon (Val := Elt Ideal) (e := .bf16) [⟨Rect.unit ![0, 768] ![1024, 256] inb_S1024x1024_S1024x256_0_768, k0_pay13 h (View.ld w (Rect.unit ![0, 768] ![2048, 256] inb_S2048x1024_S2048x256_0_768))⟩,
        ⟨Rect.unit ![0, 0] ![1024, 768] inb_S1024x1024_S1024x768_0_0, k0_pay12 h (View.ld w (Rect.unit ![0, 0] ![2048, 768] inb_S2048x1024_S2048x768_0_0))⟩] y
      = Scalar.sigmoid (projBlock h w (y 0) (y 1)) := by
  refine View.canon_apply_of_pieces (show Vec Ideal S1024x1024 .bf16 from fun y => Scalar.sigmoid (projBlock h w (y 0) (y 1))) _ (View.PiecesOf.mem (?_ : View.PiecesOf _ _)) y (View.cover_of_tiledBy _ ![1024, 256] (by sl_kernel_rfl) y)
  refine ⟨?_, ?_, trivial⟩
  all_goals
    intro z
    dsimp only
    rw [emb_tile _ _ _ (by norm_num)]
    pointwise [k0_pay12, k0_pay13, projBlock]
    simp only [Scalar.half_tanh]

/-- The query heads: the gain carries the softmax's scale. -/
theorem q_eq (g : Vec Ideal S1x128 .f32) (h : Vec Ideal S1024x2048 .bf16) (w : Vec Ideal S2048x1024 .f32) (y : S1024x1024.Idx) :
    View.canon (Val := Elt Ideal) (e := .bf16) [⟨Rect.unit ![0, 896] ![1024, 128] inb_S1024x1024_S1024x128_0_896, k0_pay4 (k0_pay20 g) (k0_pay31 h (View.ld w (Rect.unit ![0, 768] ![2048, 256] inb_S2048x1024_S2048x256_0_768))) (k0_pay32 h (View.ld w (Rect.unit ![0, 768] ![2048, 256] inb_S2048x1024_S2048x256_0_768))) (FloatOps.ofBits FTy.f32 1124073472#32)⟩,
        ⟨Rect.unit ![0, 768] ![1024, 128] inb_S1024x1024_S1024x128_0_768, k0_pay30 (k0_pay20 g) h (View.ld w (Rect.unit ![0, 768] ![2048, 256] inb_S2048x1024_S2048x256_0_768))⟩,
        ⟨Rect.unit ![0, 640] ![1024, 128] inb_S1024x1024_S1024x128_0_640, k0_pay28 (k0_pay20 g) (k0_pay21 h (View.ld w (Rect.unit ![0, 0] ![2048, 768] inb_S2048x1024_S2048x768_0_0)))⟩,
        ⟨Rect.unit ![0, 512] ![1024, 128] inb_S1024x1024_S1024x128_0_512, k0_pay27 (k0_pay20 g) (k0_pay21 h (View.ld w (Rect.unit ![0, 0] ![2048, 768] inb_S2048x1024_S2048x768_0_0)))⟩,
        ⟨Rect.unit ![0, 384] ![1024, 128] inb_S1024x1024_S1024x128_0_384, k0_pay26 (k0_pay20 g) (k0_pay21 h (View.ld w (Rect.unit ![0, 0] ![2048, 768] inb_S2048x1024_S2048x768_0_0)))⟩,
        ⟨Rect.unit ![0, 256] ![1024, 128] inb_S1024x1024_S1024x128_0_256, k0_pay25 (k0_pay20 g) (k0_pay24 h (View.ld w (Rect.unit ![0, 0] ![2048, 768] inb_S2048x1024_S2048x768_0_0)))⟩,
        ⟨Rect.unit ![0, 128] ![1024, 128] inb_S1024x1024_S1024x128_0_128, k0_pay23 g h (View.ld w (Rect.unit ![0, 0] ![2048, 768] inb_S2048x1024_S2048x768_0_0))⟩,
        ⟨Rect.unit ![0, 0] ![1024, 128] inb_S1024x1024_S1024x128_0_0, k0_pay22 g h (View.ld w (Rect.unit ![0, 0] ![2048, 768] inb_S2048x1024_S2048x768_0_0))⟩] y
      = headsBlock (fun d => g (ix2 0 d) * Ideal.ofBits .f32 0x3E0293EE#32) h w y := by
  refine View.canon_apply_of_pieces (headsBlock (fun d => g (ix2 0 d) * Ideal.ofBits .f32 0x3E0293EE#32) h w) _ (View.PiecesOf.mem (?_ : View.PiecesOf _ _)) y (View.cover_of_tiledL _ ![1024, 128] (by rfl) y)
  refine ⟨?_, ?_, ?_, ?_, ?_, ?_, ?_, ?_, trivial⟩
  · intro z
    refine Eq.trans ?_ (heads_tile _ _ _ 896 inb_S1024x1024_S1024x128_0_896 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
    have e : ∀ x : ℕ, 768 + (128 + x) = 896 + x := fun x => by omega
    simp only [e]
  · intro z
    refine Eq.trans ?_ (heads_tile _ _ _ 768 inb_S1024x1024_S1024x128_0_768 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 640 inb_S1024x1024_S1024x128_0_640 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 512 inb_S1024x1024_S1024x128_0_512 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 384 inb_S1024x1024_S1024x128_0_384 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 256 inb_S1024x1024_S1024x128_0_256 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 128 inb_S1024x1024_S1024x128_0_128 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]
  · intro z
    refine Eq.trans ?_ (heads_tile _ _ _ 0 inb_S1024x1024_S1024x128_0_0 (by norm_num) (by norm_num) z).symm
    dsimp only
    pointwise [k0_pay4, k0_pay20, k0_pay21, k0_pay22, k0_pay23, k0_pay24, k0_pay25, k0_pay26, k0_pay27, k0_pay28, k0_pay29, k0_pay30, k0_pay31, k0_pay32, headNorm, projBlock]

/-- The key heads. -/
theorem k_eq (g : Vec Ideal S1x128 .f32) (h : Vec Ideal S1024x2048 .bf16) (w : Vec Ideal S2048x1024 .f32) (y : S1024x1024.Idx) :
    View.canon (Val := Elt Ideal) (e := .bf16) [⟨Rect.unit ![0, 896] ![1024, 128] inb_S1024x1024_S1024x128_0_896, k0_pay5 (k0_pay33 g) (k0_pay46 h (View.ld w (Rect.unit ![0, 768] ![2048, 256] inb_S2048x1024_S2048x256_0_768))) (k0_pay47 h (View.ld w (Rect.unit ![0, 768] ![2048, 256] inb_S2048x1024_S2048x256_0_768))) (FloatOps.ofBits FTy.f32 897988541#32)⟩,
        ⟨Rect.unit ![0, 768] ![1024, 128] inb_S1024x1024_S1024x128_0_768, k0_pay45 (k0_pay33 g) h (View.ld w (Rect.unit ![0, 768] ![2048, 256] inb_S2048x1024_S2048x256_0_768))⟩,
        ⟨Rect.unit ![0, 640] ![1024, 128] inb_S1024x1024_S1024x128_0_640, k0_pay43 (k0_pay33 g) (k0_pay42 (k0_pay34 h (View.ld w (Rect.unit ![0, 0] ![2048, 768] inb_S2048x1024_S2048x768_0_0))))⟩,
        ⟨Rect.unit ![0, 512] ![1024, 128] inb_S1024x1024_S1024x128_0_512, k0_pay41 (k0_pay33 g) (k0_pay34 h (View.ld w (Rect.unit ![0, 0] ![2048, 768] inb_S2048x1024_S2048x768_0_0)))⟩,
        ⟨Rect.unit ![0, 384] ![1024, 128] inb_S1024x1024_S1024x128_0_384, k0_pay40 (k0_pay33 g) (k0_pay34 h (View.ld w (Rect.unit ![0, 0] ![2048, 768] inb_S2048x1024_S2048x768_0_0)))⟩,
        ⟨Rect.unit ![0, 256] ![1024, 128] inb_S1024x1024_S1024x128_0_256, k0_pay39 (k0_pay33 g) (k0_pay37 h (View.ld w (Rect.unit ![0, 0] ![2048, 768] inb_S2048x1024_S2048x768_0_0))) (k0_pay38 h (View.ld w (Rect.unit ![0, 0] ![2048, 768] inb_S2048x1024_S2048x768_0_0)))⟩,
        ⟨Rect.unit ![0, 128] ![1024, 128] inb_S1024x1024_S1024x128_0_128, k0_pay36 g h (View.ld w (Rect.unit ![0, 0] ![2048, 768] inb_S2048x1024_S2048x768_0_0))⟩,
        ⟨Rect.unit ![0, 0] ![1024, 128] inb_S1024x1024_S1024x128_0_0, k0_pay35 g h (View.ld w (Rect.unit ![0, 0] ![2048, 768] inb_S2048x1024_S2048x768_0_0))⟩] y
      = headsBlock (fun d => g (ix2 0 d)) h w y := by
  refine View.canon_apply_of_pieces (headsBlock (fun d => g (ix2 0 d)) h w) _ (View.PiecesOf.mem (?_ : View.PiecesOf _ _)) y (View.cover_of_tiledL _ ![1024, 128] (by rfl) y)
  refine ⟨?_, ?_, ?_, ?_, ?_, ?_, ?_, ?_, trivial⟩
  · intro z
    refine Eq.trans ?_ (heads_tile _ _ _ 896 inb_S1024x1024_S1024x128_0_896 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
    have e : ∀ x : ℕ, 768 + (128 + x) = 896 + x := fun x => by omega
    simp only [e]
  · intro z
    refine Eq.trans ?_ (heads_tile _ _ _ 768 inb_S1024x1024_S1024x128_0_768 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 640 inb_S1024x1024_S1024x128_0_640 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 512 inb_S1024x1024_S1024x128_0_512 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 384 inb_S1024x1024_S1024x128_0_384 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 256 inb_S1024x1024_S1024x128_0_256 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 128 inb_S1024x1024_S1024x128_0_128 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]
  · intro z
    refine Eq.trans ?_ (heads_tile _ _ _ 0 inb_S1024x1024_S1024x128_0_0 (by norm_num) (by norm_num) z).symm
    dsimp only
    pointwise [k0_pay5, k0_pay33, k0_pay34, k0_pay35, k0_pay36, k0_pay37, k0_pay38, k0_pay39, k0_pay40, k0_pay41, k0_pay42, k0_pay43, k0_pay44, k0_pay45, k0_pay46, k0_pay47, headNorm, projBlock]

/-! ## The rows -/

/-- A sum over 2048 columns, part by part. -/
theorem sum_parts (f : Fin 2048 → EReal) : (∑ l, f l) = (∑ l : Fin 512, f ⟨0 + l.val, by omega⟩) + (∑ l : Fin 512, f ⟨512 + l.val, by omega⟩)
    + (∑ l : Fin 512, f ⟨1024 + l.val, by omega⟩) + ∑ l : Fin 512, f ⟨1536 + l.val, by omega⟩ := by
  refine (Fin.sum_univ_add (a := 1536) (b := 512) f).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  exact Finset.sum_congr rfl fun l _ => congrArg f (Fin.ext (Nat.zero_add _).symm)

/-- A row of 2048 columns, from its four parts. -/
def joined (x0 x1 x2 x3 : Vec Ideal S1024x512 .f32) (a : Fin 1024) (l : Fin 2048) : EReal :=
  if h : l.val < 512 then x0 (ix2 a ⟨l.val, h⟩)
  else if h' : l.val < 1024 then x1 (ix2 a ⟨l.val - 512, by omega⟩)
  else if h'' : l.val < 1536 then x2 (ix2 a ⟨l.val - 1024, by omega⟩)
  else x3 (ix2 a ⟨l.val - 1536, by omega⟩)

section
variable (x0 x1 x2 x3 : Vec Ideal S1024x512 .f32) (a : Fin 1024) (d : Fin 512)

theorem joined_0 (h : 0 + d.val < 2048) : joined x0 x1 x2 x3 a ⟨0 + d.val, h⟩ = x0 (ix2 a d) :=
  (dif_pos (by dsimp only; omega)).trans <| congrArg (fun q => x0 (ix2 a q)) (Fin.ext (by dsimp only; omega))

theorem joined_1 (h : 512 + d.val < 2048) : joined x0 x1 x2 x3 a ⟨512 + d.val, h⟩ = x1 (ix2 a d) :=
  (dif_neg (by dsimp only; omega)).trans <| (dif_pos (by dsimp only; omega)).trans <| congrArg (fun q => x1 (ix2 a q)) (Fin.ext (by dsimp only; omega))

theorem joined_2 (h : 1024 + d.val < 2048) : joined x0 x1 x2 x3 a ⟨1024 + d.val, h⟩ = x2 (ix2 a d) :=
  (dif_neg (by dsimp only; omega)).trans <| (dif_neg (by dsimp only; omega)).trans <| (dif_pos (by dsimp only; omega)).trans <| congrArg (fun q => x2 (ix2 a q)) (Fin.ext (by dsimp only; omega))

theorem joined_3 (h : 1536 + d.val < 2048) : joined x0 x1 x2 x3 a ⟨1536 + d.val, h⟩ = x3 (ix2 a d) :=
  (dif_neg (by dsimp only; omega)).trans <| (dif_neg (by dsimp only; omega)).trans <| (dif_neg (by dsimp only; omega)).trans <| congrArg (fun q => x3 (ix2 a q)) (Fin.ext (by dsimp only; omega))

/-- The factor of a row: one over the root of its mean square plus the small constant. -/
theorem scale_eq : k0_pay18 x0 x1 x2 x3 (ix2 a 0) = Ideal.rsqrt (Ideal.div (∑ l, joined x0 x1 x2 x3 a l * joined x0 x1 x2 x3 a l)
    (Ideal.ofBits .f32 0x45000000#32) + Ideal.ofBits .f32 0x358637BD#32) := by
  rw [sum_parts, Scalar.div_2048]
  simp only [joined_0, joined_1, joined_2, joined_3]
  pointwise [k0_pay18, k0_pay14, k0_pay15, k0_pay16, k0_pay17]

end

/-- The normalised rows a block's projection reads. -/
def rowsBlock (x0 x1 x2 x3 : Vec Ideal S1024x512 .f32) (g : Vec Ideal S1x2048 .f32) : Vec Ideal S1024x2048 .bf16 := fun y =>
  Rms.rms (joined x0 x1 x2 x3 (y 0)) (fun k => g (ix2 0 k)) (y 1)

/-- An entry of the rows by its place in its part. -/
theorem rows_tile (x0 x1 x2 x3 : Vec Ideal S1024x512 .f32) (g : Vec Ideal S1x2048 .f32) (o : ℕ)
    (hr : ∀ a, (![0, o] : Fin 2 → Nat) a + (![1024, 512] : Fin 2 → Nat) a ≤ S1024x2048.size a) (ho : o + 512 ≤ 2048)
    (z : S1024x512.Idx) (v : EReal)
    (hv : joined x0 x1 x2 x3 (z 0) ⟨o + (z 1).val, lt_of_lt_of_le (Nat.add_lt_add_left (z 1).isLt o) ho⟩ = v) :
    rowsBlock x0 x1 x2 x3 g ((Rect.unit (s := S1024x2048) ![0, o] ![1024, 512] hr).emb z)
      = v * k0_pay18 x0 x1 x2 x3 (ix2 (z 0) 0)
          * g (ix2 0 ⟨o + (z 1).val, lt_of_lt_of_le (Nat.add_lt_add_left (z 1).isLt o) ho⟩) := by
  rw [emb_part o hr ho z, ← hv]
  exact congrArg (fun q => joined x0 x1 x2 x3 (z 0) ⟨o + (z 1).val, lt_of_lt_of_le (Nat.add_lt_add_left (z 1).isLt o) ho⟩ * q
    * g (ix2 0 ⟨o + (z 1).val, lt_of_lt_of_le (Nat.add_lt_add_left (z 1).isLt o) ho⟩)) (scale_eq x0 x1 x2 x3 (z 0)).symm

/-- The rows, as the kernel writes them part by part. -/
theorem rows_eq (x0 x1 x2 x3 : Vec Ideal S1024x512 .f32) (g : Vec Ideal S1x2048 .f32) (y : S1024x2048.Idx) :
    View.canon (Val := Elt Ideal) (e := .bf16) [⟨Rect.unit ![0, 1536] ![1024, 512] inb_S1024x2048_S1024x512_0_1536, k0_pay3 (k0_pay17 x3) (k0_pay18 x0 x1 x2 x3) (View.ld g (Rect.unit ![0, 1536] ![1, 512] inb_S1x2048_S1x512_0_1536))⟩,
        ⟨Rect.unit ![0, 1024] ![1024, 512] inb_S1024x2048_S1024x512_0_1024, k0_pay2 (k0_pay16 x2) (k0_pay18 x0 x1 x2 x3) (View.ld g (Rect.unit ![0, 1024] ![1, 512] inb_S1x2048_S1x512_0_1024))⟩,
        ⟨Rect.unit ![0, 512] ![1024, 512] inb_S1024x2048_S1024x512_0_512, k0_pay1 (k0_pay15 x1) (k0_pay18 x0 x1 x2 x3) (View.ld g (Rect.unit ![0, 512] ![1, 512] inb_S1x2048_S1x512_0_512))⟩,
        ⟨Rect.unit ![0, 0] ![1024, 512] inb_S1024x2048_S1024x512_0_0, k0_pay19 x0 x1 x2 x3 (View.ld g (Rect.unit ![0, 0] ![1, 512] inb_S1x2048_S1x512_0_0))⟩] y
      = rowsBlock x0 x1 x2 x3 g y := by
  refine View.canon_apply_of_pieces (rowsBlock x0 x1 x2 x3 g) _ (View.PiecesOf.mem (?_ : View.PiecesOf _ _)) y (View.cover_of_tiledL _ ![1024, 512] (by rfl) y)
  refine ⟨?_, ?_, ?_, ?_, trivial⟩
  · intro z
    refine Eq.trans ?_ (rows_tile _ _ _ _ _ 1536 inb_S1024x2048_S1024x512_0_1536 (by norm_num) z _ (joined_3 _ _ _ _ (z 0) (z 1) _)).symm
    dsimp only
    pointwise [k0_pay1, k0_pay2, k0_pay3, k0_pay19, k0_pay14, k0_pay15, k0_pay16, k0_pay17]
  · intro z
    refine Eq.trans ?_ (rows_tile _ _ _ _ _ 1024 inb_S1024x2048_S1024x512_0_1024 (by norm_num) z _ (joined_2 _ _ _ _ (z 0) (z 1) _)).symm
    dsimp only
    pointwise [k0_pay1, k0_pay2, k0_pay3, k0_pay19, k0_pay14, k0_pay15, k0_pay16, k0_pay17]
  · intro z
    refine Eq.trans ?_ (rows_tile _ _ _ _ _ 512 inb_S1024x2048_S1024x512_0_512 (by norm_num) z _ (joined_1 _ _ _ _ (z 0) (z 1) _)).symm
    dsimp only
    pointwise [k0_pay1, k0_pay2, k0_pay3, k0_pay19, k0_pay14, k0_pay15, k0_pay16, k0_pay17]
  · intro z
    refine Eq.trans ?_ (rows_tile _ _ _ _ _ 0 inb_S1024x2048_S1024x512_0_0 (by norm_num) z _ (joined_0 _ _ _ _ (z 0) (z 1) _)).symm
    dsimp only
    pointwise [k0_pay1, k0_pay2, k0_pay3, k0_pay19, k0_pay14, k0_pay15, k0_pay16, k0_pay17]

/-- Loading the whole buffer of rows reads it in place. -/
theorem whole_idx (j : S1024x2048.Idx) :
    (Rect.unit (s := S1024x2048) ![0, 0] ![1024, 2048] inb_S1024x2048_S1024x2048_0_0).toLoadRect.idx j = j := by
  funext a
  match a with
  | ⟨0, _⟩ => exact Fin.ext (by show 0 + 1 * (j 0).val = (j 0).val; omega)
  | ⟨1, _⟩ => exact Fin.ext (by show 0 + 1 * (j 1).val = (j 1).val; omega)

/-! ## What the points leave -/

/-- The rows that the first point of a block of rows leaves, and the later ones read. -/
abbrev rowsOf (c : Dev nD) (t : Fin cfg0.N) : Vec Ideal S1024x2048 .bf16 :=
  rowsBlock (iblk m c 0 t) (iblk m c 1 t) (iblk m c 2 t) (iblk m c 3 t) (iblk m c 4 t)

theorem row_value (c : Dev nD) (t : Fin cfg0.N) (r : t.val % 10 = 0) : rowOf (atA m c t r).2.1 = rowsOf m c t := by
  unfold rowOf atA runA
  dsimp only
  rw [View.read_writes_junk_eq_canon]
  frame_out
  exact funext fun y => rows_eq _ _ _ _ _ y

theorem q_value (c : Dev nD) (t : Fin cfg0.N) (r : t.val % 10 = 0) (y : S1024x1024.Idx) :
    outOf (atA m c t r).1 y = headsBlock (fun d => (show Vec Ideal S1x128 .f32 from iblk m c 5 t) (ix2 0 d) * Ideal.ofBits .f32 0x3E0293EE#32) (rowsOf m c t) (iblk m c 7 t) y := by
  unfold outOf atA runA
  dsimp only
  rw [View.read_writes_junk_eq_canon]
  frame_out
  simp only [View.readCov_eq_canon', rows_eq, whole_idx]
  exact q_eq _ _ _ y

theorem k_value (c : Dev nD) (t : Fin cfg0.N) (r : t.val % 10 = 1) (h : Vec Ideal S1024x2048 .bf16) (y : S1024x1024.Idx) :
    outOf (atB m c t r h).1 y = headsBlock (fun d => (show Vec Ideal S1x128 .f32 from iblk m c 6 t) (ix2 0 d)) h (iblk m c 7 t) y := by
  unfold outOf atB runB
  dsimp only
  rw [View.read_writes_junk_eq_canon]
  frame_out
  simp only [read_unread_whole]
  exact k_eq _ _ _ y

theorem plain_value (c : Dev nD) (t : Fin cfg0.N) (r : 2 ≤ t.val % 10 ∧ t.val % 10 ≤ 3) (h : Vec Ideal S1024x2048 .bf16) (y : S1024x1024.Idx) :
    outOf (atC m c t r h).1 y = projBlock h (iblk m c 7 t) (y 0) (y 1) := by
  unfold outOf atC runC
  dsimp only
  rw [View.read_writes_junk_eq_canon]
  frame_out
  simp only [read_unread_whole]
  exact plain_eq _ _ y

theorem fac_value (c : Dev nD) (t : Fin cfg0.N) (r : t.val % 10 = 4) (x : Vec Ideal S1024x1024 .bf16) (h : Vec Ideal S1024x2048 .bf16) (y : S1024x1024.Idx) :
    facOf (atD m c t r x h).1 y = projBlock h (iblk m c 7 t) (y 0) (y 1) := by
  unfold facOf atD runD
  dsimp only
  rw [View.read_writes_junk_eq_canon]
  frame_out
  simp only [read_unread_whole]
  exact fac_eq _ _ y

theorem prod_value (c : Dev nD) (t : Fin cfg0.N) (r : t.val % 10 = 5) (h : Vec Ideal S1024x2048 .bf16) (x : Vec Ideal S1024x1024 .f32) (y : S1024x1024.Idx) :
    outOf (atE m c t r h x).1 y = x y * projBlock h (iblk m c 7 t) (y 0) (y 1) := by
  unfold outOf atE runE
  dsimp only
  rw [View.read_writes_junk_eq_canon]
  frame_out
  simp only [read_unread_whole]
  exact prod_eq _ _ _ y

theorem gate_value (c : Dev nD) (t : Fin cfg0.N) (r : 6 ≤ t.val % 10) (h : Vec Ideal S1024x2048 .bf16) (y : S1024x1024.Idx) :
    outOf (atF m c t r h).1 y = Scalar.sigmoid (projBlock h (iblk m c 7 t) (y 0) (y 1)) := by
  unfold outOf atF runF
  dsimp only
  rw [View.read_writes_junk_eq_canon]
  frame_out
  simp only [read_unread_whole]
  exact gate_eq _ _ y

end Cert.Kernel5Ideal.Value
-- ==== Proof.InProjArray.lean ====
/- The input projection: what the kernel's result array holds and what the reference computes, both as one function of
   the arguments. -/
module

public import proofs.«01_k».proof.Proof.InProj
public import proofs.«01_k».proof.Proof.Gen.Reference5Ideal.Run

@[expose] public section

set_option maxRecDepth 16384

noncomputable section

namespace Cert.Kernel5Ideal.Value
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

/-- Row `R` of the batch's 8192 rows. -/
def row (x : Vec Ideal S2x4096x2048 .f32) (R : Fin 8192) (k : Fin 2048) : EReal :=
  x (ix3 ⟨R.val / 4096, by omega⟩ ⟨R.val % 4096, Nat.mod_lt _ (by norm_num)⟩ k)

/-- A normalised row's projection on one of the 10240 columns. -/
def proj (x : Vec Ideal S2x4096x2048 .f32) (g : Vec Ideal S1x2048 .f32) (w : Vec Ideal S1x2048x10240 .f32) (R : Fin 8192) (n : Fin 10240) : EReal :=
  ∑ k, Rms.rms (row x R) (fun k => g (ix2 0 k)) k * w (ix3 0 k n)

/-- The normalised heads of the 1024 columns that begin at column `o`. -/
def heads (y : Fin 10240 → EReal) (g : Fin 128 → EReal) (o : ℕ) (ho : o + 1024 ≤ 10240) (n : Fin 1024) : EReal :=
  headNorm (fun d => y ⟨o + (n.val / 128 * 128 + d.val), by omega⟩) g ⟨n.val % 128, Nat.mod_lt _ (by norm_num)⟩

/-- The result's columns: the gates, the query heads with the softmax's scale, the key heads, the values, the convolution's
    gate, and the product of the last two groups of columns. -/
def columns (y : Fin 10240 → EReal) (gq gk : Fin 128 → EReal) (n : Fin 9216) : EReal :=
  if h : n.val < 4096 then Scalar.sigmoid (y ⟨6144 + n.val, by omega⟩)
  else if h1 : n.val < 5120 then heads y (fun d => gq d * Ideal.ofBits .f32 0x3E0293EE#32) 0 (by norm_num) ⟨n.val - 4096, by omega⟩
  else if h2 : n.val < 6144 then heads y gk 1024 (by norm_num) ⟨n.val - 5120, by omega⟩
  else if h3 : n.val < 7168 then y ⟨2048 + (n.val - 6144), by omega⟩
  else if h4 : n.val < 8192 then y ⟨3072 + (n.val - 7168), by omega⟩
  else y ⟨4096 + (n.val - 8192), by omega⟩ * y ⟨5120 + (n.val - 8192), by omega⟩

/-- The result over the whole arrays. -/
def projArr (x : Vec Ideal S2x4096x2048 .f32) (g : Vec Ideal S1x2048 .f32) (w : Vec Ideal S1x2048x10240 .f32) (gq gk : Vec Ideal S1x128 .f32) :
    Vec Ideal S8192x9216 .bf16 := fun i =>
  columns (proj x g w (i 0)) (fun d => gq (ix2 0 d)) (fun d => gk (ix2 0 d)) (i 1)

section
variable (y : Fin 10240 → EReal) (gq gk : Fin 128 → EReal) (n : Fin 9216) (q : Fin 1024)
theorem columns_gate (h : n.val < 4096) : columns y gq gk n = Scalar.sigmoid (y ⟨6144 + n.val, by omega⟩) := dif_pos h
theorem columns_q (h : n.val = 4096 + q.val) :
    columns y gq gk n = heads y (fun d => gq d * Ideal.ofBits .f32 0x3E0293EE#32) 0 (by norm_num) q := by
  unfold columns
  rw [dif_neg (by omega), dif_pos (by omega)]
  exact congrArg (heads y _ 0 _) (Fin.ext (by dsimp only; omega))
theorem columns_k (h : n.val = 5120 + q.val) : columns y gq gk n = heads y gk 1024 (by norm_num) q := by
  unfold columns
  rw [dif_neg (by omega), dif_neg (by omega), dif_pos (by omega)]
  exact congrArg (heads y _ 1024 _) (Fin.ext (by dsimp only; omega))
theorem columns_v (h : n.val = 6144 + q.val) : columns y gq gk n = y ⟨2048 + q.val, by omega⟩ := by
  unfold columns
  rw [dif_neg (by omega), dif_neg (by omega), dif_neg (by omega), dif_pos (by omega)]
  exact congrArg y (Fin.ext (by dsimp only; omega))
theorem columns_b (h : n.val = 7168 + q.val) : columns y gq gk n = y ⟨3072 + q.val, by omega⟩ := by
  unfold columns
  rw [dif_neg (by omega), dif_neg (by omega), dif_neg (by omega), dif_neg (by omega), dif_pos (by omega)]
  exact congrArg y (Fin.ext (by dsimp only; omega))
theorem columns_u (h : n.val = 8192 + q.val) : columns y gq gk n = y ⟨4096 + q.val, by omega⟩ * y ⟨5120 + q.val, by omega⟩ := by
  unfold columns
  rw [dif_neg (by omega), dif_neg (by omega), dif_neg (by omega), dif_neg (by omega), dif_neg (by omega)]
  exact congrArg₂ (fun a b => y a * y b) (Fin.ext (by dsimp only; omega)) (Fin.ext (by dsimp only; omega))
end

/-- The arguments, at their plain types. -/
abbrev argX (c : Dev nD) : Vec Ideal S2x4096x2048 .f32 := m ((c : Thread nD τ).loc main_arg0)
abbrev argG (c : Dev nD) : Vec Ideal S1x2048 .f32 := m ((c : Thread nD τ).loc main_arg1)
abbrev argW (c : Dev nD) : Vec Ideal S1x2048x10240 .f32 := m ((c : Thread nD τ).loc main_arg2)
abbrev argQ (c : Dev nD) : Vec Ideal S1x128 .f32 := m ((c : Thread nD τ).loc main_arg3)
abbrev argK (c : Dev nD) : Vec Ideal S1x128 .f32 := m ((c : Thread nD τ).loc main_arg4)

/-- The result's block of columns that step `j` of a block of rows works on. -/
def outCol (j : ℕ) : ℕ := if j < 4 then 4 + j else if j < 6 then 3 + j else j - 6

/-- Where the blocks of the weights, the gains and the result lie at each of the 80 points. -/
theorem idx : ∀ t : Fin cfg0.N, win0_4.index t = ![0, 0] ∧ win0_5.index t = ![0, 0] ∧ win0_6.index t = ![0, 0]
    ∧ win0_7.index t = ![0, t.val % 10] ∧ win0_8.index t = ![t.val / 10, outCol (t.val % 10)] :=
  (by decide +kernel : ∀ t : Fin grid0.N, _)

/-- Where the parts of the rows lie at the first point of each block of rows. -/
theorem idx_first : ∀ t : Fin cfg0.N, t.val % 10 = 0 → win0_0.index t = ![t.val / 10, 0] ∧ win0_1.index t = ![t.val / 10, 1]
    ∧ win0_2.index t = ![t.val / 10, 2] ∧ win0_3.index t = ![t.val / 10, 3] :=
  (by decide +kernel : ∀ t : Fin grid0.N, _)

/-- There are 80 points. -/
theorem t_lt (t : Fin cfg0.N) : t.val < 80 := lt_of_lt_of_eq t.isLt N_0

/-- The array's row of row `a` of point `t`'s block. -/
def rowNo (t : Fin cfg0.N) (a : Fin 1024) : Fin 8192 := ⟨t.val / 10 * 1024 + a.val, by have := t_lt t; omega⟩

/-- The projection's column of column `n` of point `t`'s block. -/
def colNo (t : Fin cfg0.N) (n : Fin 1024) : Fin 10240 := ⟨t.val % 10 * 1024 + n.val, by omega⟩

theorem outCol_lt (j : ℕ) (h : j < 10) : outCol j < 9 := by unfold outCol; split_ifs <;> omega

/-- What the first point of a block of rows stages: part 0 of the rows. -/
theorem read0 (c : Dev nD) (t : Fin cfg0.N) (h : t.val % 10 = 0) (a : Fin 1024) (k : Fin 512) :
    (show Vec Ideal S1024x512 .f32 from iblk m c 0 t) (ix2 a k) = row (argX m c) (rowNo t a) ⟨0 * 512 + k.val, by omega⟩ := by
  simp only [row, rowNo]
  blk_point [iblk, V, idx_first t h]

/-- What the first point of a block of rows stages: part 1 of the rows. -/
theorem read1 (c : Dev nD) (t : Fin cfg0.N) (h : t.val % 10 = 0) (a : Fin 1024) (k : Fin 512) :
    (show Vec Ideal S1024x512 .f32 from iblk m c 1 t) (ix2 a k) = row (argX m c) (rowNo t a) ⟨1 * 512 + k.val, by omega⟩ := by
  simp only [row, rowNo]
  blk_point [iblk, V, idx_first t h]

/-- What the first point of a block of rows stages: part 2 of the rows. -/
theorem read2 (c : Dev nD) (t : Fin cfg0.N) (h : t.val % 10 = 0) (a : Fin 1024) (k : Fin 512) :
    (show Vec Ideal S1024x512 .f32 from iblk m c 2 t) (ix2 a k) = row (argX m c) (rowNo t a) ⟨2 * 512 + k.val, by omega⟩ := by
  simp only [row, rowNo]
  blk_point [iblk, V, idx_first t h]

/-- What the first point of a block of rows stages: part 3 of the rows. -/
theorem read3 (c : Dev nD) (t : Fin cfg0.N) (h : t.val % 10 = 0) (a : Fin 1024) (k : Fin 512) :
    (show Vec Ideal S1024x512 .f32 from iblk m c 3 t) (ix2 a k) = row (argX m c) (rowNo t a) ⟨3 * 512 + k.val, by omega⟩ := by
  simp only [row, rowNo]
  blk_point [iblk, V, idx_first t h]

/-- What a point stages: the gain of the rows. -/
theorem read4 (c : Dev nD) (t : Fin cfg0.N) (k : Fin 2048) :
    (show Vec Ideal S1x2048 .f32 from iblk m c 4 t) (ix2 0 k) = argG m c (ix2 0 k) := by
  blk_point [iblk, V, idx t]

/-- What a point stages: the gain of the query heads. -/
theorem read5 (c : Dev nD) (t : Fin cfg0.N) (k : Fin 128) :
    (show Vec Ideal S1x128 .f32 from iblk m c 5 t) (ix2 0 k) = argQ m c (ix2 0 k) := by
  blk_point [iblk, V, idx t]

/-- What a point stages: the gain of the key heads. -/
theorem read6 (c : Dev nD) (t : Fin cfg0.N) (k : Fin 128) :
    (show Vec Ideal S1x128 .f32 from iblk m c 6 t) (ix2 0 k) = argK m c (ix2 0 k) := by
  blk_point [iblk, V, idx t]

/-- What a point stages: a block of columns of the weights. -/
theorem read7 (c : Dev nD) (t : Fin cfg0.N) (k : Fin 2048) (n : Fin 1024) :
    (show Vec Ideal S2048x1024 .f32 from iblk m c 7 t) (ix2 k n) = argW m c (ix3 0 k (colNo t n)) := by
  simp only [colNo]
  blk_point [iblk, V, idx t]

/-- Where entry `y` of point `t`'s block lies in the result array. -/
theorem place (t : Fin cfg0.N) (y : S1024x1024.Idx) : (((cfg0.win 8).blk t).view.emb y : S8192x9216.Idx)
    = ix2 (rowNo t (y 0)) ⟨outCol (t.val % 10) * 1024 + (y 1).val, by
        have : (y 1).val < 1024 := (y 1).isLt
        have := outCol_lt (t.val % 10) (by omega)
        omega⟩ := by
  simp only [rowNo]
  blk_ext [idx t]

/-- The four parts a block of rows' first point stages are the array's rows. -/
theorem joined_row (c : Dev nD) (t : Fin cfg0.N) (h : t.val % 10 = 0) (a : Fin 1024) :
    joined (iblk m c 0 t) (iblk m c 1 t) (iblk m c 2 t) (iblk m c 3 t) a = row (argX m c) (rowNo t a) := by
  funext l
  unfold joined
  split_ifs with h0 h1 h2
  · exact (read0 m c t h a _).trans (congrArg (row (argX m c) (rowNo t a)) (Fin.ext (by dsimp only; omega)))
  · exact (read1 m c t h a _).trans (congrArg (row (argX m c) (rowNo t a)) (Fin.ext (by dsimp only; omega)))
  · exact (read2 m c t h a _).trans (congrArg (row (argX m c) (rowNo t a)) (Fin.ext (by dsimp only; omega)))
  · exact (read3 m c t h a _).trans (congrArg (row (argX m c) (rowNo t a)) (Fin.ext (by dsimp only; omega)))

/-- The rows a point reads, as the first point of its block of rows left them. -/
theorem rowAt_eq (c : Dev nD) (t : Fin cfg0.N) (a : Fin 1024) (k : Fin 2048) :
    rowAt m c t (ix2 a k) = Rms.rms (row (argX m c) (rowNo t a)) (fun k => argG m c (ix2 0 k)) k := by
  unfold rowAt
  rw [row_value]
  have e : rowNo (first t) a = rowNo t a := Fin.ext (by show t.val / 10 * 10 / 10 * 1024 + a.val = t.val / 10 * 1024 + a.val; omega)
  rw [← e, ← joined_row m c (first t) (first_mod t) a]
  exact congrFun (congrArg (Rms.rms _) (funext fun k => read4 m c (first t) k)) k

/-- A point's projected block is a block of the projection. -/
theorem proj_block (c : Dev nD) (t : Fin cfg0.N) (a n : Fin 1024) :
    projBlock (rowAt m c t) (iblk m c 7 t) a n = proj (argX m c) (argG m c) (argW m c) (rowNo t a) (colNo t n) :=
  Finset.sum_congr rfl fun k _ => congrArg₂ (· * ·) (rowAt_eq m c t a k) (read7 m c t k n)

/-- A point's block of normalised heads is a block of the heads. -/
theorem heads_block (c : Dev nD) (t : Fin cfg0.N) (g g' : Fin 128 → EReal) (hg : g = g') (o : ℕ) (ho : o + 1024 ≤ 10240)
    (h : t.val % 10 * 1024 = o) (y : S1024x1024.Idx) :
    headsBlock g (rowAt m c t) (iblk m c 7 t) y
      = heads (proj (argX m c) (argG m c) (argW m c) (rowNo t (y 0))) g' o ho (y 1) := by
  subst hg
  subst h
  exact congrFun (congrFun (congrArg headNorm (funext fun d => proj_block m c t (y 0) _)) g) _

/-- The kernel's result array. -/
theorem final (c : Dev nD) : (dats m 0 c).arrAt 8 (cfgs 0).N
    = projArr (argX m c) (argG m c) (argW m c) (argQ m c) (argK m c) := by
  refine (dats m 0 c).arrAt_eq_of_covers 8 _ (by decide +kernel) fun t hf y => ?_
  blk_simp
  rw [after0_8, place t y]
  have hy : (y 1).val < 1024 := (y 1).isLt
  show outAt m c t y = columns (proj (argX m c) (argG m c) (argW m c) (rowNo t (y 0))) (fun d => argQ m c (ix2 0 d))
    (fun d => argK m c (ix2 0 d)) ⟨outCol (t.val % 10) * 1024 + (y 1).val, _⟩
  by_cases r0 : t.val % 10 = 0
  · rw [outAt_A m c t r0, q_value, columns_q _ _ _ _ (y 1) (congrArg (fun j => outCol j * 1024 + (y 1).val) r0)]
    have e : rowsOf m c t = rowAt m c t := by rw [rowAt_first m c t r0, row_value]
    rw [e]
    exact heads_block m c t _ _ (funext fun d => congrArg (· * Ideal.ofBits .f32 0x3E0293EE#32) (read5 m c t d)) 0 _ (by rw [r0]) y
  by_cases r1 : t.val % 10 = 1
  · rw [outAt_B m c t r1, k_value, columns_k _ _ _ _ (y 1) (congrArg (fun j => outCol j * 1024 + (y 1).val) r1)]
    exact heads_block m c t _ _ (funext fun d => read6 m c t d) 1024 _ (by rw [r1]) y
  by_cases r2 : t.val % 10 = 2
  · rw [outAt_C m c t (by omega), plain_value, columns_v _ _ _ _ (y 1) (congrArg (fun j => outCol j * 1024 + (y 1).val) r2)]
    exact (proj_block m c t (y 0) (y 1)).trans (congrArg (proj _ _ _ _) (Fin.ext (congrArg (fun j => j * 1024 + (y 1).val) r2)))
  by_cases r3 : t.val % 10 = 3
  · rw [outAt_C m c t (by omega), plain_value, columns_b _ _ _ _ (y 1) (congrArg (fun j => outCol j * 1024 + (y 1).val) r3)]
    exact (proj_block m c t (y 0) (y 1)).trans (congrArg (proj _ _ _ _) (Fin.ext (congrArg (fun j => j * 1024 + (y 1).val) r3)))
  by_cases r4 : t.val % 10 = 4
  · rw [outAt_D m c t r4, columns_b _ _ _ _ (y 1) (congrArg (fun j => outCol j * 1024 + (y 1).val) r4)]
    unfold plainAt
    rw [plain_value]
    exact (proj_block m c (prev t) (y 0) (y 1)).trans (congrArg₂ (proj _ _ _)
      (Fin.ext (by show (t.val - 1) / 10 * 1024 + _ = t.val / 10 * 1024 + _; omega))
      (Fin.ext (by show (t.val - 1) % 10 * 1024 + _ = 3072 + _; omega)))
  by_cases r5 : t.val % 10 = 5
  · rw [outAt_E m c t r5, prod_value, columns_u _ _ _ _ (y 1) (congrArg (fun j => outCol j * 1024 + (y 1).val) r5)]
    unfold facAt
    rw [fac_value]
    exact congrArg₂ (· * ·) ((proj_block m c (prev t) (y 0) (y 1)).trans (congrArg₂ (proj _ _ _)
        (Fin.ext (by show (t.val - 1) / 10 * 1024 + _ = t.val / 10 * 1024 + _; omega))
        (Fin.ext (by show (t.val - 1) % 10 * 1024 + _ = 4096 + _; omega))))
      ((proj_block m c t (y 0) (y 1)).trans (congrArg (proj _ _ _ _) (Fin.ext (congrArg (fun j => j * 1024 + (y 1).val) r5))))
  have r6 : 6 ≤ t.val % 10 := by omega
  have eo : outCol (t.val % 10) = t.val % 10 - 6 := by unfold outCol; rw [if_neg (by omega), if_neg (by omega)]
  rw [outAt_F m c t r6, gate_value, columns_gate _ _ _ _ (by show outCol (t.val % 10) * 1024 + (y 1).val < 4096; omega)]
  exact congrArg Scalar.sigmoid ((proj_block m c t (y 0) (y 1)).trans (congrArg (proj _ _ _ _)
    (Fin.ext (by show t.val % 10 * 1024 + (y 1).val = 6144 + (outCol (t.val % 10) * 1024 + (y 1).val); omega))))

end Cert.Kernel5Ideal.Value

namespace Cert.Reference5Ideal.Value
open Cert.Reference5Ideal Cert.Reference5Ideal.Gen Idealize.ShloMosaic Idealize.ShloMosaic.TcCoe Idealize.SL.Sem

/-- The reference's projection. -/
def refY (x : FVec Ideal S2x4096x2048 .f32) (g : FVec Ideal S1x2048 .f32) (w : FVec Ideal S1x2048x10240 .f32) : FVec Ideal S8192x10240 .f32 :=
  (shapeCast _ (Host.dotGeneral dot_S2x4096x2048_S2048x10240_S2x4096x10240_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))) (shapeCast _ w shapeCasts_S1x2048x10240_S2048x10240)) shapeCasts_S2x4096x10240_S8192x10240)

/-- The reference's normalised heads. -/
def refHeads (s : FVec Ideal S8192x1024 .f32) (gain : FVec Ideal S1x128 .f32) : FVec Ideal S8192x1024 .f32 :=
  (shapeCast _ (mulf (mulf (shapeCast _ s shapeCasts_S8192x1024_S8192x8x128) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (shapeCast _ s shapeCasts_S8192x1024_S8192x8x128) (shapeCast _ s shapeCasts_S8192x1024_S8192x8x128)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x1x128_S8192x8x128_0_1_2 (broadcastInDim S1x1x128 ![2] bcast_S128_S1x1x128_2 (shapeCast _ gain shapeCasts_S1x128_S128)))) shapeCasts_S8192x8x128_S8192x1024)

theorem refY_eq (x : FVec Ideal S2x4096x2048 .f32) (g : FVec Ideal S1x2048 .f32) (w : FVec Ideal S1x2048x10240 .f32) (R : Fin 8192) (n : Fin 10240) :
    refY x g w (ix2 R n) = Cert.Kernel5Ideal.Value.proj x g w R n := by
  unfold refY
  pointwise [Cert.Kernel5Ideal.Value.proj, Cert.Kernel5Ideal.Value.row, Rms.rms]

theorem refHeads_eq (s : FVec Ideal S8192x1024 .f32) (gain : FVec Ideal S1x128 .f32) (R : Fin 8192) (n : Fin 1024) :
    refHeads s gain (ix2 R n) = Cert.Kernel5Ideal.Value.headNorm (fun d => s (ix2 R ⟨n.val / 128 * 128 + d.val, by omega⟩))
      (fun d => gain (ix2 0 d)) ⟨n.val % 128, Nat.mod_lt _ (by norm_num)⟩ := by
  unfold refHeads
  pointwise [Cert.Kernel5Ideal.Value.headNorm]
  simp only [Nat.div_add_mod']

/-- The reference's composed term is the same function. -/
theorem ref_eq (x : FVec Ideal S2x4096x2048 .f32) (g : FVec Ideal S1x2048 .f32) (w : FVec Ideal S1x2048x10240 .f32) (gq gk : FVec Ideal S1x128 .f32) :
    (show FVec Ideal S8192x9216 .bf16 from truncf .bf16 ((concatenate S8192x9216 1 [⟨S8192x4096, ((Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 6144] (refY x g w) slices_S8192x10240_S8192x4096_0_6144))))))⟩, ⟨S8192x1024, ((mulf (refHeads (extractStridedSlice S8192x1024 ![0, 0] (refY x g w) slices_S8192x10240_S8192x1024_0_0) gq) (broadcastInDim S8192x1024 ![] bcast_S_S8192x1024 (constant S_ .f32 0x3E0293EE#32))))⟩, ⟨S8192x1024, ((refHeads (extractStridedSlice S8192x1024 ![0, 1024] (refY x g w) slices_S8192x10240_S8192x1024_0_1024) gk))⟩, ⟨S8192x1024, ((extractStridedSlice S8192x1024 ![0, 2048] (refY x g w) slices_S8192x10240_S8192x1024_0_2048))⟩, ⟨S8192x1024, ((extractStridedSlice S8192x1024 ![0, 3072] (refY x g w) slices_S8192x10240_S8192x1024_0_3072))⟩, ⟨S8192x1024, ((mulf (extractStridedSlice S8192x1024 ![0, 4096] (refY x g w) slices_S8192x10240_S8192x1024_0_4096) (extractStridedSlice S8192x1024 ![0, 5120] (refY x g w) slices_S8192x10240_S8192x1024_0_5120)))⟩] concatenates_S8192x4096_S8192x1024_S8192x1024_S8192x1024_S8192x1024_S8192x1024_S8192x9216_d1)) bitsLt_bf16_f32)
      = Cert.Kernel5Ideal.Value.projArr x g w gq gk := by
  funext i
  idx_vars i
  pointwise [refY_eq, refHeads_eq, Cert.Kernel5Ideal.Value.projArr]
  have z : ∀ n : ℕ, 0 + n = n := Nat.zero_add
  by_cases h0 : i1.val < 4096
  · rw [dif_pos h0, Cert.Kernel5Ideal.Value.columns_gate _ _ _ _ h0, Scalar.sigmoid]
  rw [dif_neg h0]
  by_cases h1 : i1.val - 4096 < 1024
  · rw [dif_pos h1, Cert.Kernel5Ideal.Value.columns_q _ _ _ _ ⟨i1.val - 4096, h1⟩ (by dsimp only; omega), Cert.Kernel5Ideal.Value.heads,
      Cert.Kernel5Ideal.Value.headNorm, Cert.Kernel5Ideal.Value.headNorm, mul_assoc]
    simp only [z]
  rw [dif_neg h1]
  by_cases h2 : i1.val - 4096 - 1024 < 1024
  · rw [dif_pos h2, Cert.Kernel5Ideal.Value.columns_k _ _ _ _ ⟨i1.val - 4096 - 1024, h2⟩ (by dsimp only; omega), Cert.Kernel5Ideal.Value.heads]
  rw [dif_neg h2]
  by_cases h3 : i1.val - 4096 - 1024 - 1024 < 1024
  · rw [dif_pos h3, Cert.Kernel5Ideal.Value.columns_v _ _ _ _ ⟨i1.val - 4096 - 1024 - 1024, h3⟩ (by dsimp only; omega)]
  rw [dif_neg h3]
  by_cases h4 : i1.val - 4096 - 1024 - 1024 - 1024 < 1024
  · rw [dif_pos h4, Cert.Kernel5Ideal.Value.columns_b _ _ _ _ ⟨i1.val - 4096 - 1024 - 1024 - 1024, h4⟩ (by dsimp only; omega)]
  rw [dif_neg h4, Cert.Kernel5Ideal.Value.columns_u _ _ _ _ ⟨i1.val - 4096 - 1024 - 1024 - 1024 - 1024, by omega⟩ (by dsimp only; omega)]

end Cert.Reference5Ideal.Value
-- ==== Proof.MobaRun.lean ====
/- The attention: one run of the kernel's body, in each of the three forms its branches give it. The cast
   weights' buffers are left at the casts of their blocks; of the other buffers the body writes nothing is said but that
   they are held again. -/
module

public import proofs.«01_k».proof.Proof.Gen.KernelIdeal.Frame.Runs
public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A block of the up-projection's rows, cut into its eight column tiles and rounded. -/
def upTiles (w : Vec F S64x8192 .f32) : Vec F S8x64x1024 .bf16 := fun y =>
  FloatOps.truncf .bf16 bitsLt_bf16_f32 (w (ix2 (y 1) (Fin.mk ((y 0).val * 1024 + (y 2).val) (by have h0 : (y 0).val < 8 := (y 0).isLt; have h2 : (y 2).val < 1024 := (y 2).isLt; omega))))

/-- A buffer that is loaded whole, rounded and stored whole. -/
theorem cast_stored {S : Shape} (a : Memref sig .tc .vmem S .f32) (ha : a.IsWhole) (v : View sig .tc .vmem S .bf16) (f : v.ty.Contents (Elt F))
    (x : Vec F S .f32) {off : Fin S.rank → ℕ} (inb : ∀ k, off k + S.size k ≤ S.size k) (hS : S.ShapeCasts S) :
    v.read (Elt F) (v.writes (Elt F) f [⟨Rect.unit off S.size inb,
      truncf .bf16 (shapeCast S (a.view.readAt (Elt F) (Rect.unit off S.size inb).toLoadRect (ha.unread x)) hS) bitsLt_bf16_f32⟩])
      = truncf .bf16 x bitsLt_bf16_f32 := by
  have h : ∀ k, off k = 0 := fun k => by have := inb k; omega
  have e : ∀ y, (Rect.unit off S.size inb).emb y = y := fun y => funext fun k => Fin.ext (by
    show off k + 1 * (y k).val = (y k).val
    rw [h k]; omega)
  funext y
  have hr := View.read_writes_cons_emb (v := v) (f := f) (Rect.unit off S.size inb)
    (truncf .bf16 (shapeCast S (a.view.readAt (Elt F) (Rect.unit off S.size inb).toLoadRect (ha.unread x)) hS) bitsLt_bf16_f32) [] y
  rw [e y] at hr
  refine hr.trans (congrArg (FloatOps.truncf .bf16 bitsLt_bf16_f32) ?_)
  refine (congrFun (shapeCast_self (a.view.readAt (Elt F) (Rect.unit off S.size inb).toLoadRect (ha.unread x)) hS) y).trans ?_
  exact (congrFun (ha.read_unread x) _).trans (congrArg x (e y))

/-- A column tile of a buffer that is loaded, rounded and stored as a plane: what that plane holds. -/
theorem tile_stored (a : Memref sig .tc .vmem S64x8192 .f32) (ha : a.IsWhole) (x : Vec F S64x8192 .f32) (k : ℕ)
    (inb : ∀ d, (![0, k * 1024] : Fin 2 → ℕ) d + S64x1024.size d ≤ S64x8192.size d)
    (inb' : ∀ d, (![k, 0, 0] : Fin 3 → ℕ) d + S1x64x1024.size d ≤ S8x64x1024.size d) (z : S1x64x1024.Idx) :
    shapeCast S1x64x1024 (truncf .bf16 (shapeCast S64x1024 (a.view.readAt (Elt F) (Rect.unit (s := S64x8192) ![0, k * 1024] S64x1024.size inb).toLoadRect
      (ha.unread x)) shapeCasts_S64x1024_S64x1024) bitsLt_bf16_f32) shapeCasts_S64x1024_S1x64x1024 z
      = upTiles x ((Rect.unit (s := S8x64x1024) ![k, 0, 0] S1x64x1024.size inb').emb z) := by
  rw [show a.view.readAt (Elt F) (Rect.unit (s := S64x8192) ![0, k * 1024] S64x1024.size inb).toLoadRect (ha.unread x)
    = View.ld x (Rect.unit (s := S64x8192) ![0, k * 1024] S64x1024.size inb) from funext fun y => congrFun (ha.read_unread x) _]
  idx_vars z
  pointwise [upTiles]
  refine congrArg _ (congrArg x (funext fun d => ?_))
  match d with
  | ⟨0, _⟩ => exact Fin.ext (show z1.val = 0 + 1 * z1.val by omega)
  | ⟨1, _⟩ => exact Fin.ext (show k * 1024 + z2.val = (k + 1 * z0.val) * 1024 + (0 + 1 * z2.val) by omega)

/-- The eight column tiles, stored one after another: the whole buffer. -/
theorem tiles_stored (a : Memref sig .tc .vmem S64x8192 .f32) (ha : a.IsWhole) (v : View sig .tc .vmem S8x64x1024 .bf16)
    (f : v.ty.Contents (Elt F)) (x : Vec F S64x8192 .f32) :
    v.read (Elt F) (v.writes (Elt F) f
      [⟨Rect.unit (s := S8x64x1024) ![7, 0, 0] S1x64x1024.size inb_S8x64x1024_S1x64x1024_7_0_0,
          k0_pay781 (a.view.readAt (Elt F) (Rect.unit (s := S64x8192) ![0, 7168] S64x1024.size inb_S64x8192_S64x1024_0_7168).toLoadRect (ha.unread x))⟩,
        ⟨Rect.unit (s := S8x64x1024) ![6, 0, 0] S1x64x1024.size inb_S8x64x1024_S1x64x1024_6_0_0,
          k0_pay780 (a.view.readAt (Elt F) (Rect.unit (s := S64x8192) ![0, 6144] S64x1024.size inb_S64x8192_S64x1024_0_6144).toLoadRect (ha.unread x))⟩,
        ⟨Rect.unit (s := S8x64x1024) ![5, 0, 0] S1x64x1024.size inb_S8x64x1024_S1x64x1024_5_0_0,
          k0_pay779 (a.view.readAt (Elt F) (Rect.unit (s := S64x8192) ![0, 5120] S64x1024.size inb_S64x8192_S64x1024_0_5120).toLoadRect (ha.unread x))⟩,
        ⟨Rect.unit (s := S8x64x1024) ![4, 0, 0] S1x64x1024.size inb_S8x64x1024_S1x64x1024_4_0_0,
          k0_pay778 (a.view.readAt (Elt F) (Rect.unit (s := S64x8192) ![0, 4096] S64x1024.size inb_S64x8192_S64x1024_0_4096).toLoadRect (ha.unread x))⟩,
        ⟨Rect.unit (s := S8x64x1024) ![3, 0, 0] S1x64x1024.size inb_S8x64x1024_S1x64x1024_3_0_0,
          k0_pay777 (a.view.readAt (Elt F) (Rect.unit (s := S64x8192) ![0, 3072] S64x1024.size inb_S64x8192_S64x1024_0_3072).toLoadRect (ha.unread x))⟩,
        ⟨Rect.unit (s := S8x64x1024) ![2, 0, 0] S1x64x1024.size inb_S8x64x1024_S1x64x1024_2_0_0,
          k0_pay776 (a.view.readAt (Elt F) (Rect.unit (s := S64x8192) ![0, 2048] S64x1024.size inb_S64x8192_S64x1024_0_2048).toLoadRect (ha.unread x))⟩,
        ⟨Rect.unit (s := S8x64x1024) ![1, 0, 0] S1x64x1024.size inb_S8x64x1024_S1x64x1024_1_0_0,
          k0_pay775 (a.view.readAt (Elt F) (Rect.unit (s := S64x8192) ![0, 1024] S64x1024.size inb_S64x8192_S64x1024_0_1024).toLoadRect (ha.unread x))⟩,
        ⟨Rect.unit (s := S8x64x1024) ![0, 0, 0] S1x64x1024.size inb_S8x64x1024_S1x64x1024_0_0_0,
          k0_pay774 (a.view.readAt (Elt F) (Rect.unit (s := S64x8192) ![0, 0] S64x1024.size inb_S64x8192_S64x1024_0_0).toLoadRect (ha.unread x))⟩])
      = upTiles x := by
  funext y
  refine View.read_writes_apply_of_pieces v f (upTiles x) _ ?_ y (View.cover_of_tiledL _ ![1, 64, 1024] (by rfl) y)
  refine View.PiecesOf.mem ⟨?_, ?_, ?_, ?_, ?_, ?_, ?_, ?_, trivial⟩
  · exact fun z => tile_stored a ha x 7 inb_S64x8192_S64x1024_0_7168 inb_S8x64x1024_S1x64x1024_7_0_0 z
  · exact fun z => tile_stored a ha x 6 inb_S64x8192_S64x1024_0_6144 inb_S8x64x1024_S1x64x1024_6_0_0 z
  · exact fun z => tile_stored a ha x 5 inb_S64x8192_S64x1024_0_5120 inb_S8x64x1024_S1x64x1024_5_0_0 z
  · exact fun z => tile_stored a ha x 4 inb_S64x8192_S64x1024_0_4096 inb_S8x64x1024_S1x64x1024_4_0_0 z
  · exact fun z => tile_stored a ha x 3 inb_S64x8192_S64x1024_0_3072 inb_S8x64x1024_S1x64x1024_3_0_0 z
  · exact fun z => tile_stored a ha x 2 inb_S64x8192_S64x1024_0_2048 inb_S8x64x1024_S1x64x1024_2_0_0 z
  · exact fun z => tile_stored a ha x 1 inb_S64x8192_S64x1024_0_1024 inb_S8x64x1024_S1x64x1024_1_0_0 z
  · exact fun z => tile_stored a ha x 0 inb_S64x8192_S64x1024_0_0 inb_S8x64x1024_S1x64x1024_0_0_0 z

variable (c : Dev nD) (i : grid0.Coords)
  (arg2 : Memref sig .tc .vmem S1x256x1024 .bf16) (arg3 : Memref sig .tc .vmem S1x4096x1024 .bf16) (arg4 : Memref sig .tc .vmem S1x4096x1024 .bf16)
  (arg5 : Memref sig .tc .vmem S32x2048 .f32) (arg6 : Memref sig .tc .vmem S32x2048 .f32) (arg7 : Memref sig .tc .vmem S64x2048 .f32)
  (arg8 : Memref sig .tc .vmem S64x8192 .f32) (arg9 : Memref sig .tc .vmem S256x2048 .f32) (arg10 : Memref sig .tc .vmem S64x2048 .f32)
  (arg11 : Memref sig .tc .vmem S16x1024 .f32) (arg12 : Memref sig .tc .vmem S1x256x1024 .bf16) (arg13 : Memref sig .tc .vmem S32x2048 .bf16)
  (arg14 : Memref sig .tc .vmem S32x2048 .bf16) (arg15 : Memref sig .tc .vmem S64x2048 .bf16) (arg16 : Memref sig .tc .vmem S8x64x1024 .bf16)
  (arg17 : Memref sig .tc .vmem S256x2048 .bf16) (arg18 : Memref sig .tc .vmem S64x2048 .bf16) (arg19 : Memref sig .tc .vmem S16x1024 .bf16)
  (arg20 : Memref sig .tc .vmem S8x16x128 .f32) (arg21 : Memref sig .tc .vmem S1152x4096 .bf16) (arg22 : Memref sig .tc .vmem S8x128x256 .bf16)
  (arg23 : Memref sig .tc .vmem S8x16x256 .f32) (arg24 : Memref sig .tc .vmem S8x1x256 .f32) (arg25 : Memref sig .tc .vmem S8x144x256 .f32)
  (arg26 : Memref sig .tc .vmem S8x256x256 .f32) (arg27 : Memref sig .tc .vmem S8x256x256 .f32)
variable
  (x0 : Vec F S1x256x1024 .bf16) (x1 : Vec F S1x4096x1024 .bf16) (x2 : Vec F S1x4096x1024 .bf16) (x3 : Vec F S32x2048 .f32)
  (x4 : Vec F S32x2048 .f32) (x5 : Vec F S64x2048 .f32) (x6 : Vec F S64x8192 .f32) (x7 : Vec F S256x2048 .f32) (x8 : Vec F S64x2048 .f32)
  (x9 : Vec F S16x1024 .f32)

/-- The body's buffers: the windows it reads at their blocks; the results' and the scratch at anything. -/
def held : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare x8 ∗ owns (c : Thread nD τ) arg11 fullShare x9
    ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d)
    ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d))

/-- The same buffers after the body: the cast weights' at the casts of their blocks. -/
def left : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare x8 ∗ owns (c : Thread nD τ) arg11 fullShare x9
    ∗ (∃ d, owns (c : Thread nD τ) arg12 fullShare d) ∗ owns (c : Thread nD τ) arg13 fullShare (truncf .bf16 x3 bitsLt_bf16_f32)
    ∗ owns (c : Thread nD τ) arg14 fullShare (truncf .bf16 x4 bitsLt_bf16_f32) ∗ owns (c : Thread nD τ) arg15 fullShare (truncf .bf16 x5 bitsLt_bf16_f32)
    ∗ owns (c : Thread nD τ) arg16 fullShare (upTiles x6) ∗ owns (c : Thread nD τ) arg17 fullShare (truncf .bf16 x7 bitsLt_bf16_f32)
    ∗ owns (c : Thread nD τ) arg18 fullShare (truncf .bf16 x8 bitsLt_bf16_f32) ∗ owns (c : Thread nD τ) arg19 fullShare (truncf .bf16 x9 bitsLt_bf16_f32)
    ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d)
    ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d))

set_option maxHeartbeats 6400000 in
/-- The first point of a sequence: it also takes the means of the keys' blocks and turns the values over. -/
theorem runA
    (harg2 : arg2.IsWhole) (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole) (harg13 : arg13.IsWhole)
    (harg14 : arg14.IsWhole) (harg15 : arg15.IsWhole) (harg16 : arg16.IsWhole) (harg17 : arg17.IsWhole) (harg18 : arg18.IsWhole)
    (harg19 : arg19.IsWhole) (harg20 : arg20.IsWhole) (harg21 : arg21.IsWhole) (harg22 : arg22.IsWhole) (harg23 : arg23.IsWhole)
    (harg24 : arg24.IsWhole) (harg25 : arg25.IsWhole) (harg26 : arg26.IsWhole) (harg27 : arg27.IsWhole)
    (hc0 : cond0_0 i) (hc1 : ¬cond0_1 i) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9
      ∗ (left c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9 -∗ K ⟨⟩))
    ⊢ wp frame (wpE (defs₀ (F := F)) Variants.none c none) E
        (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_moba_eq_skeleton]; unfold cc0_moba_skel
  simp only [
    k0_part118_eq_skeleton, k0_part68_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton,
    k0_part47_eq_skeleton, k0_part48_eq_skeleton, k0_part49_eq_skeleton, k0_part50_eq_skeleton, k0_part51_eq_skeleton, k0_part52_eq_skeleton,
    k0_part53_eq_skeleton, k0_part54_eq_skeleton, k0_part55_eq_skeleton, k0_part56_eq_skeleton, k0_part57_eq_skeleton, k0_part58_eq_skeleton,
    k0_part59_eq_skeleton, k0_part60_eq_skeleton, k0_part61_eq_skeleton, k0_part62_eq_skeleton, k0_part63_eq_skeleton, k0_part64_eq_skeleton,
    k0_part65_eq_skeleton, k0_part66_eq_skeleton, k0_part67_eq_skeleton, k0_part119_eq_skeleton, k0_part120_eq_skeleton, k0_part121_eq_skeleton,
    k0_part122_eq_skeleton, k0_part123_eq_skeleton, k0_part124_eq_skeleton, k0_part125_eq_skeleton, k0_part126_eq_skeleton, k0_part127_eq_skeleton,
    k0_part128_eq_skeleton, k0_part129_eq_skeleton, k0_part130_eq_skeleton, k0_part131_eq_skeleton, k0_part132_eq_skeleton, k0_part133_eq_skeleton,
    k0_part134_eq_skeleton, k0_part135_eq_skeleton, k0_part136_eq_skeleton, k0_part137_eq_skeleton, k0_part138_eq_skeleton, k0_part139_eq_skeleton,
    k0_part140_eq_skeleton, k0_part141_eq_skeleton, k0_part142_eq_skeleton, k0_part143_eq_skeleton, k0_part144_eq_skeleton, k0_part145_eq_skeleton,
    k0_part146_eq_skeleton, k0_part147_eq_skeleton, k0_part148_eq_skeleton]
  unfold held left owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩,
    ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩,
    ⟨%ds3, %fs3, -, HS3⟩, ⟨%ds4, %fs4, -, HS4⟩, ⟨%ds5, %fs5, -, HS5⟩, ⟨%ds6, %fs6, -, HS6⟩, ⟨%ds7, %fs7, -, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _, _; isplitr; swap; · iexact H10
    ipureintro; rfl
  isplitl [H11]
  · iexists _; isplitr; swap; · iexact H11
    ipureintro
    exact cast_stored arg5 harg5 arg13.view f11 x3 _ _
  isplitl [H12]
  · iexists _; isplitr; swap; · iexact H12
    ipureintro
    exact cast_stored arg6 harg6 arg14.view f12 x4 _ _
  isplitl [H13]
  · iexists _; isplitr; swap; · iexact H13
    ipureintro
    exact cast_stored arg7 harg7 arg15.view f13 x5 _ _
  isplitl [H14]
  · iexists _; isplitr; swap; · iexact H14
    ipureintro
    exact tiles_stored arg8 harg8 arg16.view f14 x6
  isplitl [H15]
  · iexists _; isplitr; swap; · iexact H15
    ipureintro
    exact cast_stored arg9 harg9 arg17.view f15 x7 _ _
  isplitl [H16]
  · iexists _; isplitr; swap; · iexact H16
    ipureintro
    exact cast_stored arg10 harg10 arg18.view f16 x8 _ _
  isplitl [H17]
  · iexists _; isplitr; swap; · iexact H17
    ipureintro
    exact cast_stored arg11 harg11 arg19.view f17 x9 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

/-- Where the block before the point's own lies: its row of a head's bias and its columns of a head's values. -/
theorem before_eq : ∀ i : grid0.Coords, cond0_1 i →
      k0_off105 i = ![0, (i 1).val - 1, 0] ∧ k0_off106 i = ![0, 256 * ((i 1).val - 1)] ∧ k0_off107 i = ![1, (i 1).val - 1, 0] ∧
      k0_off108 i = ![144, 256 * ((i 1).val - 1)] ∧ k0_off109 i = ![2, (i 1).val - 1, 0] ∧ k0_off110 i = ![288, 256 * ((i 1).val - 1)] ∧
      k0_off111 i = ![3, (i 1).val - 1, 0] ∧ k0_off112 i = ![432, 256 * ((i 1).val - 1)] ∧ k0_off113 i = ![4, (i 1).val - 1, 0] ∧
      k0_off114 i = ![576, 256 * ((i 1).val - 1)] ∧ k0_off115 i = ![5, (i 1).val - 1, 0] ∧ k0_off116 i = ![720, 256 * ((i 1).val - 1)] ∧
      k0_off117 i = ![6, (i 1).val - 1, 0] ∧ k0_off118 i = ![864, 256 * ((i 1).val - 1)] ∧ k0_off119 i = ![7, (i 1).val - 1, 0] ∧
      k0_off120 i = ![1008, 256 * ((i 1).val - 1)] :=
    by decide +kernel

set_option maxHeartbeats 6400000 in
/-- A point at an odd query block: the blocks before it are an odd number, so one of them is taken alone. -/
theorem runB
    (harg2 : arg2.IsWhole) (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole) (harg13 : arg13.IsWhole)
    (harg14 : arg14.IsWhole) (harg15 : arg15.IsWhole) (harg16 : arg16.IsWhole) (harg17 : arg17.IsWhole) (harg18 : arg18.IsWhole)
    (harg19 : arg19.IsWhole) (harg20 : arg20.IsWhole) (harg21 : arg21.IsWhole) (harg22 : arg22.IsWhole) (harg23 : arg23.IsWhole)
    (harg24 : arg24.IsWhole) (harg25 : arg25.IsWhole) (harg26 : arg26.IsWhole) (harg27 : arg27.IsWhole)
    (hc0 : ¬cond0_0 i) (hc1 : cond0_1 i) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9
      ∗ (left c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9 -∗ K ⟨⟩))
    ⊢ wp frame (wpE (defs₀ (F := F)) Variants.none c none) E
        (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_moba_eq_skeleton]; unfold cc0_moba_skel
  simp only [
    k0_part118_eq_skeleton, k0_part119_eq_skeleton, k0_part120_eq_skeleton, k0_part121_eq_skeleton, k0_part122_eq_skeleton, k0_part123_eq_skeleton,
    k0_part124_eq_skeleton, k0_part125_eq_skeleton, k0_part126_eq_skeleton, k0_part127_eq_skeleton, k0_part128_eq_skeleton, k0_part129_eq_skeleton,
    k0_part130_eq_skeleton, k0_part131_eq_skeleton, k0_part132_eq_skeleton, k0_part133_eq_skeleton, k0_part134_eq_skeleton, k0_part135_eq_skeleton,
    k0_part136_eq_skeleton, k0_part137_eq_skeleton, k0_part138_eq_skeleton, k0_part139_eq_skeleton, k0_part140_eq_skeleton, k0_part141_eq_skeleton,
    k0_part142_eq_skeleton, k0_part143_eq_skeleton, k0_part144_eq_skeleton, k0_part111_eq_skeleton, k0_part112_eq_skeleton, k0_part113_eq_skeleton,
    k0_part114_eq_skeleton, k0_part115_eq_skeleton, k0_part116_eq_skeleton, k0_part117_eq_skeleton, k0_part145_eq_skeleton, k0_part146_eq_skeleton,
    k0_part147_eq_skeleton, k0_part148_eq_skeleton]
  unfold held left owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩,
    ⟨%d15, %f15, -, H15⟩, ⟨%d16, %f16, -, H16⟩, ⟨%d17, %f17, -, H17⟩, ⟨%ds0, %fs0, %hfs0, HS0⟩, ⟨%ds1, %fs1, %hfs1, HS1⟩, ⟨%ds2, %fs2, -, HS2⟩,
    ⟨%ds3, %fs3, %hfs3, HS3⟩, ⟨%ds4, %fs4, -, HS4⟩, ⟨%ds5, %fs5, -, HS5⟩, ⟨%ds6, %fs6, -, HS6⟩, ⟨%ds7, %fs7, -, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg20.eq_unread hfs0; obtain rfl := harg21.eq_unread hfs1
  obtain rfl := harg23.eq_unread hfs3
  obtain ⟨e105, e106, e107, e108, e109, e110, e111, e112, e113, e114, e115, e116, e117, e118, e119, e120⟩ := before_eq i hc1
  letI i105 : ClosedOff (k0_off105 i) := ⟨![0, (i 1).val - 1, 0], e105⟩
  letI i106 : ClosedOff (k0_off106 i) := ⟨![0, 256 * ((i 1).val - 1)], e106⟩
  letI i107 : ClosedOff (k0_off107 i) := ⟨![1, (i 1).val - 1, 0], e107⟩
  letI i108 : ClosedOff (k0_off108 i) := ⟨![144, 256 * ((i 1).val - 1)], e108⟩
  letI i109 : ClosedOff (k0_off109 i) := ⟨![2, (i 1).val - 1, 0], e109⟩
  letI i110 : ClosedOff (k0_off110 i) := ⟨![288, 256 * ((i 1).val - 1)], e110⟩
  letI i111 : ClosedOff (k0_off111 i) := ⟨![3, (i 1).val - 1, 0], e111⟩
  letI i112 : ClosedOff (k0_off112 i) := ⟨![432, 256 * ((i 1).val - 1)], e112⟩
  letI i113 : ClosedOff (k0_off113 i) := ⟨![4, (i 1).val - 1, 0], e113⟩
  letI i114 : ClosedOff (k0_off114 i) := ⟨![576, 256 * ((i 1).val - 1)], e114⟩
  letI i115 : ClosedOff (k0_off115 i) := ⟨![5, (i 1).val - 1, 0], e115⟩
  letI i116 : ClosedOff (k0_off116 i) := ⟨![720, 256 * ((i 1).val - 1)], e116⟩
  letI i117 : ClosedOff (k0_off117 i) := ⟨![6, (i 1).val - 1, 0], e117⟩
  letI i118 : ClosedOff (k0_off118 i) := ⟨![864, 256 * ((i 1).val - 1)], e118⟩
  letI i119 : ClosedOff (k0_off119 i) := ⟨![7, (i 1).val - 1, 0], e119⟩
  letI i120 : ClosedOff (k0_off120 i) := ⟨![1008, 256 * ((i 1).val - 1)], e120⟩
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _, _; isplitr; swap; · iexact H10
    ipureintro; rfl
  isplitl [H11]
  · iexists _; isplitr; swap; · iexact H11
    ipureintro
    exact cast_stored arg5 harg5 arg13.view f11 x3 _ _
  isplitl [H12]
  · iexists _; isplitr; swap; · iexact H12
    ipureintro
    exact cast_stored arg6 harg6 arg14.view f12 x4 _ _
  isplitl [H13]
  · iexists _; isplitr; swap; · iexact H13
    ipureintro
    exact cast_stored arg7 harg7 arg15.view f13 x5 _ _
  isplitl [H14]
  · iexists _; isplitr; swap; · iexact H14
    ipureintro
    exact tiles_stored arg8 harg8 arg16.view f14 x6
  isplitl [H15]
  · iexists _; isplitr; swap; · iexact H15
    ipureintro
    exact cast_stored arg9 harg9 arg17.view f15 x7 _ _
  isplitl [H16]
  · iexists _; isplitr; swap; · iexact H16
    ipureintro
    exact cast_stored arg10 harg10 arg18.view f16 x8 _ _
  isplitl [H17]
  · iexists _; isplitr; swap; · iexact H17
    ipureintro
    exact cast_stored arg11 harg11 arg19.view f17 x9 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

set_option maxHeartbeats 6400000 in
/-- A point at an even query block, not the first. -/
theorem runC
    (harg2 : arg2.IsWhole) (harg3 : arg3.IsWhole) (harg4 : arg4.IsWhole) (harg5 : arg5.IsWhole) (harg6 : arg6.IsWhole) (harg7 : arg7.IsWhole)
    (harg8 : arg8.IsWhole) (harg9 : arg9.IsWhole) (harg10 : arg10.IsWhole) (harg11 : arg11.IsWhole) (harg12 : arg12.IsWhole) (harg13 : arg13.IsWhole)
    (harg14 : arg14.IsWhole) (harg15 : arg15.IsWhole) (harg16 : arg16.IsWhole) (harg17 : arg17.IsWhole) (harg18 : arg18.IsWhole)
    (harg19 : arg19.IsWhole) (harg20 : arg20.IsWhole) (harg21 : arg21.IsWhole) (harg22 : arg22.IsWhole) (harg23 : arg23.IsWhole)
    (harg24 : arg24.IsWhole) (harg25 : arg25.IsWhole) (harg26 : arg26.IsWhole) (harg27 : arg27.IsWhole)
    (hc0 : ¬cond0_0 i) (hc1 : ¬cond0_1 i) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9
      ∗ (left c arg2 arg3 arg4 arg5 arg6 arg7 arg8 arg9 arg10 arg11 arg12 arg13 arg14 arg15 arg16 arg17 arg18 arg19 arg20 arg21 arg22 arg23 arg24 arg25 arg26 arg27
        x0 x1 x2 x3 x4 x5 x6 x7 x8 x9 -∗ K ⟨⟩))
    ⊢ wp frame (wpE (defs₀ (F := F)) Variants.none c none) E
        (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_moba_eq_skeleton]; unfold cc0_moba_skel
  simp only [
    k0_part118_eq_skeleton, k0_part119_eq_skeleton, k0_part120_eq_skeleton, k0_part121_eq_skeleton, k0_part122_eq_skeleton, k0_part123_eq_skeleton,
    k0_part124_eq_skeleton, k0_part125_eq_skeleton, k0_part126_eq_skeleton, k0_part127_eq_skeleton, k0_part128_eq_skeleton, k0_part129_eq_skeleton,
    k0_part130_eq_skeleton, k0_part131_eq_skeleton, k0_part132_eq_skeleton, k0_part133_eq_skeleton, k0_part134_eq_skeleton, k0_part135_eq_skeleton,
    k0_part136_eq_skeleton, k0_part137_eq_skeleton, k0_part138_eq_skeleton, k0_part139_eq_skeleton, k0_part140_eq_skeleton, k0_part141_eq_skeleton,
    k0_part142_eq_skeleton, k0_part143_eq_skeleton, k0_part144_eq_skeleton, k0_part145_eq_skeleton, k0_part146_eq_skeleton, k0_part147_eq_skeleton,
    k0_part148_eq_skeleton]
  unfold held left owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩,
    ⟨%d15, %f15, -, H15⟩, ⟨%d16, %f16, -, H16⟩, ⟨%d17, %f17, -, H17⟩, ⟨%ds0, %fs0, %hfs0, HS0⟩, ⟨%ds1, %fs1, %hfs1, HS1⟩, ⟨%ds2, %fs2, -, HS2⟩,
    ⟨%ds3, %fs3, %hfs3, HS3⟩, ⟨%ds4, %fs4, -, HS4⟩, ⟨%ds5, %fs5, -, HS5⟩, ⟨%ds6, %fs6, -, HS6⟩, ⟨%ds7, %fs7, -, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg20.eq_unread hfs0; obtain rfl := harg21.eq_unread hfs1
  obtain rfl := harg23.eq_unread hfs3
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact harg11.read_unread _
  isplitl [H10]
  · iexists _, _; isplitr; swap; · iexact H10
    ipureintro; rfl
  isplitl [H11]
  · iexists _; isplitr; swap; · iexact H11
    ipureintro
    exact cast_stored arg5 harg5 arg13.view f11 x3 _ _
  isplitl [H12]
  · iexists _; isplitr; swap; · iexact H12
    ipureintro
    exact cast_stored arg6 harg6 arg14.view f12 x4 _ _
  isplitl [H13]
  · iexists _; isplitr; swap; · iexact H13
    ipureintro
    exact cast_stored arg7 harg7 arg15.view f13 x5 _ _
  isplitl [H14]
  · iexists _; isplitr; swap; · iexact H14
    ipureintro
    exact tiles_stored arg8 harg8 arg16.view f14 x6
  isplitl [H15]
  · iexists _; isplitr; swap; · iexact H15
    ipureintro
    exact cast_stored arg9 harg9 arg17.view f15 x7 _ _
  isplitl [H16]
  · iexists _; isplitr; swap; · iexact H16
    ipureintro
    exact cast_stored arg10 harg10 arg18.view f16 x8 _ _
  isplitl [H17]
  · iexists _; isplitr; swap; · iexact H17
    ipureintro
    exact cast_stored arg11 harg11 arg19.view f17 x9 _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  iexists _, _; isplitr; swap; · iexact HS7
  ipureintro; rfl

end Cert.KernelIdeal.Value

end
-- ==== Proof.MobaFrame.lean ====
/- The attention: every grid point takes the buffers it finds to the buffers the next one finds, so every run of the
   launch ends with the arguments as they were and with the cast weights' arrays written from the casts of the weights'
   blocks. Nothing is said of what the attention's own result and the scratch hold. -/
module

public import proofs.«01_k».proof.Proof.MobaRun
public import Idealize.ShloMosaic.Lib.Ring
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The window nothing is said of: the attention's own result. -/
def loose : Fin 18 → Bool := fun w => w.val == 10

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, _⟩ => truncf .bf16 (show Vec F S32x2048 .f32 from iblk m c 3 t) bitsLt_bf16_f32
    | ⟨12, _⟩ => truncf .bf16 (show Vec F S32x2048 .f32 from iblk m c 4 t) bitsLt_bf16_f32
    | ⟨13, _⟩ => truncf .bf16 (show Vec F S64x2048 .f32 from iblk m c 5 t) bitsLt_bf16_f32
    | ⟨14, _⟩ => upTiles (show Vec F S64x8192 .f32 from iblk m c 6 t)
    | ⟨15, _⟩ => truncf .bf16 (show Vec F S256x2048 .f32 from iblk m c 7 t) bitsLt_bf16_f32
    | ⟨16, _⟩ => truncf .bf16 (show Vec F S64x2048 .f32 from iblk m c 8 t) bitsLt_bf16_f32
    | ⟨17, _⟩ => truncf .bf16 (show Vec F S16x1024 .f32 from iblk m c 9 t) bitsLt_bf16_f32
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_11 (c : Dev nD) (t : Fin cfg0.N) : (dats m 0 c).after 11 t = truncf .bf16 (show Vec F S32x2048 .f32 from iblk m c 3 t) bitsLt_bf16_f32 := by dsimp only [dats]
theorem after0_12 (c : Dev nD) (t : Fin cfg0.N) : (dats m 0 c).after 12 t = truncf .bf16 (show Vec F S32x2048 .f32 from iblk m c 4 t) bitsLt_bf16_f32 := by dsimp only [dats]
theorem after0_13 (c : Dev nD) (t : Fin cfg0.N) : (dats m 0 c).after 13 t = truncf .bf16 (show Vec F S64x2048 .f32 from iblk m c 5 t) bitsLt_bf16_f32 := by dsimp only [dats]
theorem after0_14 (c : Dev nD) (t : Fin cfg0.N) : (dats m 0 c).after 14 t = upTiles (show Vec F S64x8192 .f32 from iblk m c 6 t) := by dsimp only [dats]
theorem after0_15 (c : Dev nD) (t : Fin cfg0.N) : (dats m 0 c).after 15 t = truncf .bf16 (show Vec F S256x2048 .f32 from iblk m c 7 t) bitsLt_bf16_f32 := by dsimp only [dats]
theorem after0_16 (c : Dev nD) (t : Fin cfg0.N) : (dats m 0 c).after 16 t = truncf .bf16 (show Vec F S64x2048 .f32 from iblk m c 8 t) bitsLt_bf16_f32 := by dsimp only [dats]
theorem after0_17 (c : Dev nD) (t : Fin cfg0.N) : (dats m 0 c).after 17 t = truncf .bf16 (show Vec F S16x1024 .f32 from iblk m c 9 t) bitsLt_bf16_f32 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))
def bodyPost (c : Dev nD) (t : Fin cfg0.N) : sProp 𝕄 :=
  iprop(Pipeline.ΦA spec0 c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

/-- The buffers of a point, at its blocks. -/
def heldAt (c : Dev nD) (t : Fin cfg0.N) : sProp 𝕄 :=
    held c
      (ms0_0 t) (ms0_1 t) (ms0_2 t) (ms0_3 t) (ms0_4 t) (ms0_5 t) (ms0_6 t) (ms0_7 t) (ms0_8 t)
      (ms0_9 t) (ms0_10 t) (ms0_11 t) (ms0_12 t) (ms0_13 t) (ms0_14 t) (ms0_15 t) (ms0_16 t) (ms0_17 t)
      scM0_0 scM0_1 scM0_2 scM0_3 scM0_4 scM0_5 scM0_6 scM0_7
      (iblk m c 0 t) (iblk m c 1 t) (iblk m c 2 t) (iblk m c 3 t) (iblk m c 4 t) (iblk m c 5 t) (iblk m c 6 t) (iblk m c 7 t) (iblk m c 8 t) (iblk m c 9 t)

/-- The same buffers, the cast weights' at the casts of their blocks. -/
def leftAt (c : Dev nD) (t : Fin cfg0.N) : sProp 𝕄 :=
    left c
      (ms0_0 t) (ms0_1 t) (ms0_2 t) (ms0_3 t) (ms0_4 t) (ms0_5 t) (ms0_6 t) (ms0_7 t) (ms0_8 t)
      (ms0_9 t) (ms0_10 t) (ms0_11 t) (ms0_12 t) (ms0_13 t) (ms0_14 t) (ms0_15 t) (ms0_16 t) (ms0_17 t)
      scM0_0 scM0_1 scM0_2 scM0_3 scM0_4 scM0_5 scM0_6 scM0_7
      (iblk m c 0 t) (iblk m c 1 t) (iblk m c 2 t) (iblk m c 3 t) (iblk m c 4 t) (iblk m c 5 t) (iblk m c 6 t) (iblk m c 7 t) (iblk m c 8 t) (iblk m c 9 t)

set_option maxHeartbeats 3200000 in
/-- The body at a point takes the point's buffers to those it leaves. -/
theorem body_run (c : Dev nD) (t : Fin cfg0.N) (K : PUnit → sProp 𝕄) :
    iprop(heldAt m c t ∗ (leftAt m c t -∗ K ⟨⟩)) ⊢ wp frame (wpE (defs₀ (F := F)) Variants.none c none) Set.univ (bodyAt0 t) K := by
  unfold bodyAt0 heldAt leftAt
  by_cases h0 : t.val % 16 = 0
  · exact runA c (grid0.coords t) _ _ _ _ _ _ _ _ _ _ _ _ _ _ _ _ _ _ _ _ _ _ _ _ _ _ _ _ _ _ _ _ _ _ _ _
      _ _ _ _ _ _ _ _ _ _ _ _ _ _ _ _ _ _ _ _ _ _ _ _ _ _
      ((hcond0_0 t).mpr h0) (fun h => by have := (hcond0_1 t).mp h; omega) Set.univ K
  · by_cases h1 : t.val % 2 = 1
    · exact runB c (grid0.coords t) _ _ _ _ _ _ _ _ _ _ _ _ _ _ _ _ _ _ _ _ _ _ _ _ _ _ _ _ _ _ _ _ _ _ _ _
        _ _ _ _ _ _ _ _ _ _ _ _ _ _ _ _ _ _ _ _ _ _ _ _ _ _
        (fun h => h0 ((hcond0_0 t).mp h)) ((hcond0_1 t).mpr h1) Set.univ K
    · exact runC c (grid0.coords t) _ _ _ _ _ _ _ _ _ _ _ _ _ _ _ _ _ _ _ _ _ _ _ _ _ _ _ _ _ _ _ _ _ _ _ _
        _ _ _ _ _ _ _ _ _ _ _ _ _ _ _ _ _ _ _ _ _ _ _ _ _ _
        (fun h => h0 ((hcond0_0 t).mp h)) (fun h => h1 ((hcond0_1 t).mp h)) Set.univ K

set_option maxHeartbeats 3200000 in
/-- The body takes every point's state to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9,
    after0_11, after0_12, after0_13, after0_14, after0_15, after0_16, after0_17, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    H10, ⟨%d11, H11⟩, ⟨%d12, H12⟩, ⟨%d13, H13⟩, ⟨%d14, H14⟩, ⟨%d15, H15⟩, ⟨%d16, H16⟩, ⟨%d17, H17⟩⟩
  iapply (body_run m c t)
  unfold heldAt leftAt held left
  isplitl [H0 H1 H2 H3 H4 H5 H6 H7 H8 H9 H10 H11 H12 H13 H14 H15 H16 H17 HS0 HS1 HS2 HS3 HS4 HS5 HS6 HS7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro ⟨H0, H1, H2, H3, H4, H5, H6, H7, H8, H9, H10, H11, H12, H13, H14, H15, H16, H17, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at a point is the body at its buffers. -/
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ loose := fun t => by
  rw [bigSep_W0, bigSep_W0, defs₀_row]
  exact triple_restated (sound_body m c t) rfl .rfl fun _ => .rfl

/-! ## The launch -/

set_option backward.isDefEq.respectTransparency.types false in
/-- Every run of the program ends, with every array the pipeline reads as it was and every counter at zero. -/
theorem run_main_quiescent : θ_run defs (onTc (τ := τ) (main (F := F))) (s₀ m ρ)
    (fun r => (Pipeline.RDat.FramePost (cfgs 0) (fun c => (dats m 0 c).toRForget loose) (V m)) r ∧ r.2.sem = fun _ => 0) :=
  Pipeline.θ_run_frame_track_forget_shared (Q' := _) cfgs (dats m) (0 : Fin 1) launch₀0 defs₀ Variants.none loose m ρ main
    (hbody := fun c => (body_obligation m c).loose) (hq := fun _ _ _ => rfl)
    (howed := fun _ _ => rfl) (V := V m) (hmain := hmain m Variants.none) (hA := A_eq m) (hin := fun _ => .rfl) (hout := fun _ => .rfl)

set_option maxHeartbeats 1600000 in
/-- The arguments end as they were launched. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩, hs⟩) (run_main_quiescent m ρ)

end Cert.KernelIdeal.Value

end
-- ==== Proof.MobaArray.lean ====
/- The attention's call: what its seven cast weights hold and what the reference computes, both as the same functions of
   the arguments. -/
module

public import proofs.«01_k».proof.Proof.MobaFrame
public import proofs.«01_k».proof.Proof.Gen.ReferenceIdeal.Run

@[expose] public section

set_option maxRecDepth 16384

noncomputable section

namespace Cert.KernelIdeal.Value
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ) (ρ : Dev nD → PrngReg)

/-- The weights, at their plain types. -/
abbrev argA (c : Dev nD) : Vec Ideal S1x1024x2048 .f32 := m ((c : Thread nD τ).loc main_arg3)
abbrev argC (c : Dev nD) : Vec Ideal S1x1024x2048 .f32 := m ((c : Thread nD τ).loc main_arg4)
abbrev argO (c : Dev nD) : Vec Ideal S1x2048x2048 .f32 := m ((c : Thread nD τ).loc main_arg5)
abbrev argU (c : Dev nD) : Vec Ideal S1x2048x8192 .f32 := m ((c : Thread nD τ).loc main_arg6)
abbrev argD (c : Dev nD) : Vec Ideal S1x8192x2048 .f32 := m ((c : Thread nD τ).loc main_arg7)
abbrev argG (c : Dev nD) : Vec Ideal S1x2048x2048 .f32 := m ((c : Thread nD τ).loc main_arg8)
abbrev argP (c : Dev nD) : Vec Ideal S1x256x2048 .f32 := m ((c : Thread nD τ).loc main_arg9)

/-- The cast of the attention's output weights. -/
def castA (w : Vec Ideal S1x1024x2048 .f32) : FVec Ideal S1024x2048 .bf16 :=
  truncf (F := Ideal) .bf16 (shapeCast S1024x2048 w shapeCasts_S1x1024x2048_S1024x2048) bitsLt_bf16_f32

/-- The cast of the convolution's output weights. -/
def castC (w : Vec Ideal S1x1024x2048 .f32) : FVec Ideal S1024x2048 .bf16 :=
  truncf (F := Ideal) .bf16 (shapeCast S1024x2048 w shapeCasts_S1x1024x2048_S1024x2048) bitsLt_bf16_f32

/-- The cast of the merged rows' weights. -/
def castO (w : Vec Ideal S1x2048x2048 .f32) : FVec Ideal S2048x2048 .bf16 :=
  truncf (F := Ideal) .bf16 (shapeCast S2048x2048 w shapeCasts_S1x2048x2048_S2048x2048) bitsLt_bf16_f32

/-- The cast of the up-projection, cut into its eight column tiles. -/
def castU (w : Vec Ideal S1x2048x8192 .f32) : FVec Ideal S8x2048x1024 .bf16 := fun y =>
  FloatOps.truncf (F := Ideal) .bf16 bitsLt_bf16_f32 (w (ix3 0 (y 1) (Fin.mk ((y 0).val * 1024 + (y 2).val) (by
    have h0 : (y 0).val < 8 := (y 0).isLt
    have h2 : (y 2).val < 1024 := (y 2).isLt
    omega))))

/-- The cast of the down-projection. -/
def castD (w : Vec Ideal S1x8192x2048 .f32) : FVec Ideal S8192x2048 .bf16 :=
  truncf (F := Ideal) .bf16 (shapeCast S8192x2048 w shapeCasts_S1x8192x2048_S8192x2048) bitsLt_bf16_f32

/-- The cast of the embedding's gate weights. -/
def castG (w : Vec Ideal S1x2048x2048 .f32) : FVec Ideal S2048x2048 .bf16 :=
  truncf (F := Ideal) .bf16 (shapeCast S2048x2048 w shapeCasts_S1x2048x2048_S2048x2048) bitsLt_bf16_f32

/-- The cast of the embedding's projection, each row cut into two. -/
def castP (w : Vec Ideal S1x256x2048 .f32) : FVec Ideal S512x1024 .bf16 :=
  truncf (F := Ideal) .bf16 (shapeCast S512x1024 (shapeCast S256x2048 w shapeCasts_S1x256x2048_S256x2048) shapeCasts_S256x2048_S512x1024) bitsLt_bf16_f32

/-- Where the weights' blocks and their casts' lie at each of the 32 points. -/
theorem idx : ∀ t : Fin cfg0.N, win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0]
    ∧ win0_11.index t = ![t.val, 0] ∧ win0_12.index t = ![t.val, 0] ∧ win0_13.index t = ![t.val, 0]
    ∧ win0_14.index t = ![0, t.val, 0] ∧ win0_15.index t = ![t.val, 0] ∧ win0_16.index t = ![t.val, 0] ∧ win0_17.index t = ![t.val, 0] :=
  (by decide +kernel : ∀ t : Fin grid0.N, _)

/-- There are 32 points. -/
theorem t_lt (t : Fin cfg0.N) : t.val < 32 := lt_of_lt_of_eq t.isLt N_0

/-- The up-projection's row of row `a` of point `t`'s block. -/
def rowAt (t : Fin cfg0.N) (a : Fin 64) : Fin 2048 := ⟨t.val * 64 + a.val, by have := t_lt t; omega⟩

/-- What a point stages: rows of the up-projection. -/
theorem read6 (c : Dev nD) (t : Fin cfg0.N) (a : Fin 64) (k : Fin 8192) :
    (show Vec Ideal S64x8192 .f32 from iblk m c 6 t) (ix2 a k) = argU m c (ix3 0 (rowAt t a) k) := by
  simp only [rowAt]
  blk_point [iblk, V, idx t]

/-- The cast of the attention's output weights: its array after the run. -/
theorem final11 (c : Dev nD) : (dats m 0 c).arrAt 11 (cfgs 0).N = castA (argA m c) := by
  refine (dats m 0 c).arrAt_eq_of_covers 11 _ (by decide +kernel) fun t _ y => ?_
  blk_simp
  rw [after0_11]
  refine congrArg (FloatOps.truncf (F := Ideal) .bf16 bitsLt_bf16_f32) ?_
  have e : ((cfg0.win 3).blk t).view.emb y = ((cfg0.win 11).blk t).view.emb y := by blk_ext [idx t]
  exact congrArg (show Vec Ideal S1024x2048 .f32 from V m c main_v14) e

/-- The cast of the convolution's output weights: its array after the run. -/
theorem final12 (c : Dev nD) : (dats m 0 c).arrAt 12 (cfgs 0).N = castC (argC m c) := by
  refine (dats m 0 c).arrAt_eq_of_covers 12 _ (by decide +kernel) fun t _ y => ?_
  blk_simp
  rw [after0_12]
  refine congrArg (FloatOps.truncf (F := Ideal) .bf16 bitsLt_bf16_f32) ?_
  have e : ((cfg0.win 4).blk t).view.emb y = ((cfg0.win 12).blk t).view.emb y := by blk_ext [idx t]
  exact congrArg (show Vec Ideal S1024x2048 .f32 from V m c main_v15) e

/-- The cast of the merged rows' weights: its array after the run. -/
theorem final13 (c : Dev nD) : (dats m 0 c).arrAt 13 (cfgs 0).N = castO (argO m c) := by
  refine (dats m 0 c).arrAt_eq_of_covers 13 _ (by decide +kernel) fun t _ y => ?_
  blk_simp
  rw [after0_13]
  refine congrArg (FloatOps.truncf (F := Ideal) .bf16 bitsLt_bf16_f32) ?_
  have e : ((cfg0.win 5).blk t).view.emb y = ((cfg0.win 13).blk t).view.emb y := by blk_ext [idx t]
  exact congrArg (show Vec Ideal S2048x2048 .f32 from V m c main_v16) e

/-- The cast of the up-projection: its array after the run. -/
theorem final14 (c : Dev nD) : (dats m 0 c).arrAt 14 (cfgs 0).N = castU (argU m c) := by
  refine (dats m 0 c).arrAt_eq_of_covers 14 _ (by decide +kernel) fun t _ y => ?_
  blk_simp
  rw [after0_14]
  idx_vars y
  have e : ((cfg0.win 14).blk t).view.emb (ix3 y0 y1 y2) = ix3 y0 (rowAt t y1) y2 := by
    simp only [rowAt]
    blk_ext [idx t]
  refine Eq.trans ?_ (congrArg (castU (argU m c)) e).symm
  exact congrArg (FloatOps.truncf (F := Ideal) .bf16 bitsLt_bf16_f32) (read6 m c t y1 _)

/-- The cast of the down-projection: its array after the run. -/
theorem final15 (c : Dev nD) : (dats m 0 c).arrAt 15 (cfgs 0).N = castD (argD m c) := by
  refine (dats m 0 c).arrAt_eq_of_covers 15 _ (by decide +kernel) fun t _ y => ?_
  blk_simp
  rw [after0_15]
  refine congrArg (FloatOps.truncf (F := Ideal) .bf16 bitsLt_bf16_f32) ?_
  have e : ((cfg0.win 7).blk t).view.emb y = ((cfg0.win 15).blk t).view.emb y := by blk_ext [idx t]
  exact congrArg (show Vec Ideal S8192x2048 .f32 from V m c main_v18) e

/-- The cast of the embedding's gate weights: its array after the run. -/
theorem final16 (c : Dev nD) : (dats m 0 c).arrAt 16 (cfgs 0).N = castG (argG m c) := by
  refine (dats m 0 c).arrAt_eq_of_covers 16 _ (by decide +kernel) fun t _ y => ?_
  blk_simp
  rw [after0_16]
  refine congrArg (FloatOps.truncf (F := Ideal) .bf16 bitsLt_bf16_f32) ?_
  have e : ((cfg0.win 8).blk t).view.emb y = ((cfg0.win 16).blk t).view.emb y := by blk_ext [idx t]
  exact congrArg (show Vec Ideal S2048x2048 .f32 from V m c main_v19) e

/-- The cast of the embedding's projection: its array after the run. -/
theorem final17 (c : Dev nD) : (dats m 0 c).arrAt 17 (cfgs 0).N = castP (argP m c) := by
  refine (dats m 0 c).arrAt_eq_of_covers 17 _ (by decide +kernel) fun t _ y => ?_
  blk_simp
  rw [after0_17]
  refine congrArg (FloatOps.truncf (F := Ideal) .bf16 bitsLt_bf16_f32) ?_
  have e : ((cfg0.win 9).blk t).view.emb y = ((cfg0.win 17).blk t).view.emb y := by blk_ext [idx t]
  exact congrArg (show Vec Ideal S512x1024 .f32 from V m c main_v21) e

set_option maxHeartbeats 1600000 in
/-- The cast weights end as the casts of the arguments, which end as they were launched. -/
theorem run_casts : θ_run defs (onTc (τ := τ) (main (F := Ideal))) ⟨m, fun _ => 0, ρ⟩ (fun r => ∀ c : Dev nD,
      r.2.mem ((c.tc : Thread nD τ).loc main_v22_1) = castA (argA m c)
      ∧ r.2.mem ((c.tc : Thread nD τ).loc main_v22_2) = castC (argC m c)
      ∧ r.2.mem ((c.tc : Thread nD τ).loc main_v22_3) = castO (argO m c)
      ∧ r.2.mem ((c.tc : Thread nD τ).loc main_v22_4) = castU (argU m c)
      ∧ r.2.mem ((c.tc : Thread nD τ).loc main_v22_5) = castD (argD m c)
      ∧ r.2.mem ((c.tc : Thread nD τ).loc main_v22_6) = castG (argG m c)
      ∧ r.2.mem ((c.tc : Thread nD τ).loc main_v22_7) = castP (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ ⟨h, _⟩ c => ⟨((Pipeline.Dat.toRForget_arrAt_iff _ rfl _ _).mp ((h c).1 11)).trans (final11 m c),
      ((Pipeline.Dat.toRForget_arrAt_iff _ rfl _ _).mp ((h c).1 12)).trans (final12 m c),
      ((Pipeline.Dat.toRForget_arrAt_iff _ rfl _ _).mp ((h c).1 13)).trans (final13 m c),
      ((Pipeline.Dat.toRForget_arrAt_iff _ rfl _ _).mp ((h c).1 14)).trans (final14 m c),
      ((Pipeline.Dat.toRForget_arrAt_iff _ rfl _ _).mp ((h c).1 15)).trans (final15 m c),
      ((Pipeline.Dat.toRForget_arrAt_iff _ rfl _ _).mp ((h c).1 16)).trans (final16 m c),
      ((Pipeline.Dat.toRForget_arrAt_iff _ rfl _ _).mp ((h c).1 17)).trans (final17 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main_quiescent m ρ)

end Cert.KernelIdeal.Value

namespace Cert.ReferenceIdeal.Value
open Cert.ReferenceIdeal Cert.ReferenceIdeal.Gen Idealize.ShloMosaic Idealize.ShloMosaic.TcCoe Idealize.SL.Sem

/-- The reference's column tiles of the up-projection are the kernel's. -/
theorem tiles_eq (w : FVec Ideal S1x2048x8192 .f32) :
    (show FVec Ideal S8x2048x1024 .bf16 from truncf .bf16 (transpose S8x2048x1024 [1, 0, 2] (shapeCast _ (shapeCast _ w shapeCasts_S1x2048x8192_S2048x8192)
      shapeCasts_S2048x8192_S2048x8x1024) transposes_S2048x8x1024_S8x2048x1024_1_0_2) bitsLt_bf16_f32)
      = Cert.KernelIdeal.Value.castU w := by
  funext y
  idx_vars y
  pointwise [Cert.KernelIdeal.Value.castU]

end Cert.ReferenceIdeal.Value
-- ==== Proof.lean ====
/- The certificate: the frames and the value claims of the layer's pallas calls. -/
module

public import proofs.«01_k».proof.Defs
public import proofs.«01_k».proof.Proof.Gen.Kernel2.Frame
public import proofs.«01_k».proof.Proof.MlpArray
public import proofs.«01_k».proof.Proof.Gen.Kernel3.Frame
public import proofs.«01_k».proof.Proof.PleArray
public import proofs.«01_k».proof.Proof.Gen.Kernel4.Frame
public import proofs.«01_k».proof.Proof.MixArray
public import proofs.«01_k».proof.Proof.Gen.Kernel5
public import proofs.«01_k».proof.Proof.InProjArray
public import proofs.«01_k».proof.Proof.Gen.Kernel
public import proofs.«01_k».proof.Proof.MobaArray
public import Idealize.ShloMosaic.Lib.Claim

@[expose] public section

set_option maxRecDepth 16384

noncomputable section

namespace Cert.Proof

open Idealize.ShloMosaic Idealize.SL.Sem

/-- The attention: the printed program and its idealization have the same body at every point. -/
theorem bodiesMoba {F : FTy → Type} [FloatOps F] : Cert.Kernel.defs₀ (F := F) = Cert.KernelIdeal.defs₀ := by
  sl_kernel_rfl

/-- The attention: so they have the same table of bodies. -/
theorem tablesMoba {F : FTy → Type} [FloatOps F] : Cert.Kernel.defs (F := F) = Cert.KernelIdeal.defs :=
  congrArg (Pipeline.defs (Cert.Kernel.pcfgs (F := F))) bodiesMoba

set_option maxHeartbeats 1600000 in
/-- The attention: the printed program leaves its arguments as they were; its text is the idealization's. -/
theorem frameMoba : Cert.quiescent_Kernel (hKernel := Cert.Kernel.Gen.facts) := fun m ρ _ => by
  have run := Cert.KernelIdeal.Value.unchanged (F := Bits) m ρ
  rw [tablesMoba]
  exact (θ_run Cert.KernelIdeal.defs _ _).mono (fun _ h => h) run

/-- The attention: the idealization leaves its arguments as they were. -/
theorem frameMobaIdeal : Cert.quiescent_KernelIdeal (hKernelIdeal := Cert.KernelIdeal.Gen.facts) := fun m ρ _ =>
  Cert.KernelIdeal.Value.unchanged m ρ

/-- The attention: the reference of its cast weights runs and leaves its arguments as they were; it has no counters. -/
theorem quiescentMoba : Cert.quiescent_ReferenceIdeal (hReferenceIdeal := Cert.ReferenceIdeal.Gen.facts) := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

set_option maxHeartbeats 3200000 in
/-- The attention: from equal arguments its call and the reference give equal cast weights. -/
theorem algebraicMoba : Cert.algebraic_KernelIdeal_ReferenceIdeal (hKernelIdeal := Cert.KernelIdeal.Gen.facts)
    (hReferenceIdeal := Cert.ReferenceIdeal.Gen.facts) := by
  pair_intro
  · run_from Cert.KernelIdeal.Value.run_casts m g
  · run_from Cert.ReferenceIdeal.Value.run m' g'
    exacts [rfl, rfl, rfl, Cert.ReferenceIdeal.Value.tiles_eq _, rfl, rfl, rfl]

/-- The squared-ReLU MLP: the reference runs and leaves its arguments as they were; it has no counters. -/
theorem quiescentMlp : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

set_option maxHeartbeats 3200000 in
/-- The squared-ReLU MLP: from equal arguments the kernel and the reference give equal results. -/
theorem algebraicMlp : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    exact (Cert.Reference2Ideal.Value.ref_eq _ _ _ _ ).trans (Cert.Kernel2Ideal.Value.final m c).symm

/-- The gated per-layer embedding: the reference runs and leaves its arguments as they were; it has no counters. -/
theorem quiescentPle : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

set_option maxHeartbeats 3200000 in
/-- The gated per-layer embedding: from equal arguments the kernel and the reference give equal results. -/
theorem algebraicPle : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Reference3Ideal.Value.ref_eq _ _ _ _ _ ).trans (Cert.Kernel3Ideal.Value.final m c).symm

/-- The merge of the attention and convolution branches: the reference runs and leaves its arguments as they were; it has no counters. -/
theorem quiescentMix : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

set_option maxHeartbeats 3200000 in
/-- The merge of the attention and convolution branches: from equal arguments the kernel and the reference give equal results. -/
theorem algebraicMix : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    exact (Cert.Reference4Ideal.Value.ref_eq _ _ _ _ _ _ _ _ _ _ ).trans (Cert.Kernel4Ideal.Value.final m c).symm

/-- The input projection: the printed program and its idealization have the same body at every point. -/
theorem bodiesInProj {F : FTy → Type} [FloatOps F] : Cert.Kernel5.defs₀ (F := F) = Cert.Kernel5Ideal.defs₀ := by
  refine congrArg Defs.onTc (funext fun l => funext fun x => ?_)
  obtain ⟨l, hl⟩ := l
  obtain rfl : l = 0 := Nat.lt_one_iff.mp hl
  obtain ⟨t, s⟩ := x
  rfl

/-- The input projection: so they have the same table of bodies. -/
theorem tablesInProj {F : FTy → Type} [FloatOps F] : Cert.Kernel5.defs (F := F) = Cert.Kernel5Ideal.defs :=
  congrArg (Pipeline.defs (Cert.Kernel5.pcfgs (F := F))) bodiesInProj

/-- The input projection: the printed program leaves its arguments as they were; its text is the idealization's. -/
theorem frameInProj : Cert.quiescent_Kernel5 (hKernel5 := Cert.Kernel5.Gen.facts) := fun m ρ _ => by
  rw [tablesInProj]
  exact (θ_run Cert.Kernel5Ideal.defs _ _).mono (fun _ h => h) (Cert.Kernel5Ideal.Value.unchanged (F := Bits) m ρ)

/-- The input projection: the idealization leaves its arguments as they were. -/
theorem frameInProjIdeal : Cert.quiescent_Kernel5Ideal (hKernel5Ideal := Cert.Kernel5Ideal.Gen.facts) := fun m ρ _ =>
  Cert.Kernel5Ideal.Value.unchanged m ρ

/-- The input projection: the reference runs and leaves its arguments as they were; it has no counters. -/
theorem quiescentInProj : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

set_option maxHeartbeats 3200000 in
/-- The input projection: from equal arguments the kernel and the reference give equal results. -/
theorem algebraicInProj : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_main m g
  · run_from Cert.Reference5Ideal.Value.run m' g'
    obtain ⟨h0, h1, h2, h3, h4⟩ := hagree c
    exact (Cert.Reference5Ideal.Value.ref_eq _ _ _ _ _).trans
      ((congr (congr (congr (congr (congrArg Cert.Kernel5Ideal.Value.projArr h0) h1) h2) h3) h4).trans
        (Cert.Kernel5Ideal.Value.final m c).symm)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    frameMoba, frameMobaIdeal, quiescentMoba,
    fun m g _ => Cert.Kernel2.Gen.frame m g, fun m g _ => Cert.Kernel2Ideal.Gen.frame m g, quiescentMlp,
    fun m g _ => Cert.Kernel3.Gen.frame m g, fun m g _ => Cert.Kernel3Ideal.Gen.frame m g, quiescentPle,
    fun m g _ => Cert.Kernel4.Gen.frame m g, fun m g _ => Cert.Kernel4Ideal.Gen.frame m g, quiescentMix,
    frameInProj, frameInProjIdeal, quiescentInProj,
    trivial, algebraicMoba, trivial, algebraicMlp, trivial, algebraicPle, trivial, algebraicMix, trivial, algebraicInProj⟩

end Cert.Proof

end
